-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S131072x16 : Shape := ⟨2, ![131072, 16]⟩
abbrev S131072x6x8 : Shape := ⟨3, ![131072, 6, 8]⟩
abbrev S655360x6x6 : Shape := ⟨3, ![655360, 6, 6]⟩
abbrev S16x36 : Shape := ⟨2, ![16, 36]⟩
abbrev S36 : Shape := ⟨1, ![36]⟩
abbrev S16x6 : Shape := ⟨2, ![16, 6]⟩
abbrev S6 : Shape := ⟨1, ![6]⟩
abbrev S_ : Shape := ⟨0, ![]⟩

class Facts : Prop where
  bcast_S_S655360x6x6 : S_.BroadcastsInDim S655360x6x6 (![] : Fin 0 → Fin S655360x6x6.rank)
  bcast_S_S131072x16 : S_.BroadcastsInDim S131072x16 (![] : Fin 0 → Fin S131072x16.rank)
  bcast_S_S16x36 : S_.BroadcastsInDim S16x36 (![] : Fin 0 → Fin S16x36.rank)
  bcast_S_S36 : S_.BroadcastsInDim S36 (![] : Fin 0 → Fin S36.rank)

variable [Facts]

def fn {F : FTy → Type} [FloatOps F] (main_arg0 : FVec F S131072x16 .f32) (main_arg1 : FVec F S131072x6x8 .f32) (main_arg2 : FVec F S655360x6x6 .f32) (main_arg3 : FVec F S16x36 .f32) (main_arg4 : FVec F S36 .f32) (main_arg5 : FVec F S16x6 .f32) (main_arg6 : FVec F S6 .f32) : IVec S655360x6x6 1 × IVec S131072x16 1 × IVec S16x36 1 × IVec S36 1 :=
  let main_cst : FVec F S_ .f32 := constant S_ .f32 0x00000000#32
  let main_v0 : FVec F S655360x6x6 .f32 := broadcastInDim S655360x6x6 ![] bcast_S_S655360x6x6 main_cst
  let main_v1 : IVec S655360x6x6 1 := cmpf .oge main_arg2 main_v0
  let main_cst_0 : FVec F S_ .f32 := constant S_ .f32 0x3F800000#32
  let main_v2 : FVec F S655360x6x6 .f32 := broadcastInDim S655360x6x6 ![] bcast_S_S655360x6x6 main_cst_0
  let main_v3 : IVec S655360x6x6 1 := cmpf .ole main_arg2 main_v2
  let main_v4 : IVec S655360x6x6 1 := andi main_v1 main_v3
  let main_v5 : FVec F S131072x16 .f32 := Host.absf main_arg0
  let main_cst_1 : FVec F S_ .f32 := constant S_ .f32 0x7F800000#32
  let main_v6 : FVec F S131072x16 .f32 := broadcastInDim S131072x16 ![] bcast_S_S131072x16 main_cst_1
  let main_v7 : IVec S131072x16 1 := cmpf .olt main_v5 main_v6
  let main_v8 : FVec F S16x36 .f32 := Host.absf main_arg3
  let main_cst_2 : FVec F S_ .f32 := constant S_ .f32 0x7F800000#32
  let main_v9 : FVec F S16x36 .f32 := broadcastInDim S16x36 ![] bcast_S_S16x36 main_cst_2
  let main_v10 : IVec S16x36 1 := cmpf .olt main_v8 main_v9
  let main_v11 : FVec F S36 .f32 := Host.absf main_arg4
  let main_cst_3 : FVec F S_ .f32 := constant S_ .f32 0x7F800000#32
  let main_v12 : FVec F S36 .f32 := broadcastInDim S36 ![] bcast_S_S36 main_cst_3
  let main_v13 : IVec S36 1 := cmpf .olt main_v11 main_v12
  (main_v4, main_v7, main_v10, main_v13)
-- ==== Kernel.lean ====
abbrev S131072x16 : Shape := ⟨2, ![131072, 16]⟩
abbrev S131072x6x8 : Shape := ⟨3, ![131072, 6, 8]⟩
abbrev S655360x6x6 : Shape := ⟨3, ![655360, 6, 6]⟩
abbrev S16x36 : Shape := ⟨2, ![16, 36]⟩
abbrev S36 : Shape := ⟨1, ![36]⟩
abbrev S16x6 : Shape := ⟨2, ![16, 6]⟩
abbrev S6 : Shape := ⟨1, ![6]⟩
abbrev S5x131072x36 : Shape := ⟨3, ![5, 131072, 36]⟩
abbrev S131072x48 : Shape := ⟨2, ![131072, 48]⟩
abbrev S36x16 : Shape := ⟨2, ![36, 16]⟩
abbrev S6x16 : Shape := ⟨2, ![6, 16]⟩
abbrev S36x1 : Shape := ⟨2, ![36, 1]⟩
abbrev S6x1 : Shape := ⟨2, ![6, 1]⟩
abbrev S5x131072x48 : Shape := ⟨3, ![5, 131072, 48]⟩
abbrev S6x131072 : Shape := ⟨2, ![6, 131072]⟩
abbrev S1024x16 : Shape := ⟨2, ![1024, 16]⟩
abbrev S1024x48 : Shape := ⟨2, ![1024, 48]⟩
abbrev S5x1024x36 : Shape := ⟨3, ![5, 1024, 36]⟩
abbrev S5x1024x48 : Shape := ⟨3, ![5, 1024, 48]⟩
abbrev S6x1024 : Shape := ⟨2, ![6, 1024]⟩
abbrev S16x1024 : Shape := ⟨2, ![16, 1024]⟩
abbrev S36x1024 : Shape := ⟨2, ![36, 1024]⟩
abbrev S1024 : Shape := ⟨1, ![1024]⟩
abbrev S1x1024 : Shape := ⟨2, ![1, 1024]⟩
abbrev S48x1024 : Shape := ⟨2, ![48, 1024]⟩
abbrev S8x1024 : Shape := ⟨2, ![8, 1024]⟩
abbrev S1x1024x36 : Shape := ⟨3, ![1, 1024, 36]⟩
abbrev S1024x36 : Shape := ⟨2, ![1024, 36]⟩
abbrev S1x1024x48 : Shape := ⟨3, ![1, 1024, 48]⟩
abbrev S655360x6x8 : Shape := ⟨3, ![655360, 6, 8]⟩
abbrev S131072x6 : Shape := ⟨2, ![131072, 6]⟩

abbrev nBuf : Space → Nat
  | .hbm => 17
  | .vmem => 14
  | .smem => 0
  | _ => 0

abbrev bufTy : (tb : Table) → Fin (tcTables nBuf tb) → BufTy
  | .hbm, ⟨0, _⟩ => ⟨S131072x16, .f32⟩
  | .hbm, ⟨1, _⟩ => ⟨S131072x6x8, .f32⟩
  | .hbm, ⟨2, _⟩ => ⟨S655360x6x6, .f32⟩
  | .hbm, ⟨3, _⟩ => ⟨S16x36, .f32⟩
  | .hbm, ⟨4, _⟩ => ⟨S36, .f32⟩
  | .hbm, ⟨5, _⟩ => ⟨S16x6, .f32⟩
  | .hbm, ⟨6, _⟩ => ⟨S6, .f32⟩
  | .hbm, ⟨7, _⟩ => ⟨S5x131072x36, .f32⟩
  | .hbm, ⟨8, _⟩ => ⟨S131072x48, .f32⟩
  | .hbm, ⟨9, _⟩ => ⟨S36x16, .f32⟩
  | .hbm, ⟨10, _⟩ => ⟨S6x16, .f32⟩
  | .hbm, ⟨11, _⟩ => ⟨S36x1, .f32⟩
  | .hbm, ⟨12, _⟩ => ⟨S6x1, .f32⟩
  | .hbm, ⟨13, _⟩ => ⟨S5x131072x48, .f32⟩
  | .hbm, ⟨14, _⟩ => ⟨S6x131072, .f32⟩
  | .hbm, ⟨15, _⟩ => ⟨S655360x6x8, .f32⟩
  | .hbm, ⟨16, _⟩ => ⟨S131072x6, .f32⟩
  | .local _ .vmem, ⟨0, _⟩ => ⟨S1024x16, .f32⟩
  | .local _ .vmem, ⟨1, _⟩ => ⟨S1024x16, .f32⟩
  | .local _ .vmem, ⟨2, _⟩ => ⟨S1024x48, .f32⟩
  | .local _ .vmem, ⟨3, _⟩ => ⟨S1024x48, .f32⟩
  | .local _ .vmem, ⟨4, _⟩ => ⟨S5x1024x36, .f32⟩
  | .local _ .vmem, ⟨5, _⟩ => ⟨S5x1024x36, .f32⟩
  | .local _ .vmem, ⟨6, _⟩ => ⟨S36x16, .f32⟩
  | .local _ .vmem, ⟨7, _⟩ => ⟨S36x1, .f32⟩
  | .local _ .vmem, ⟨8, _⟩ => ⟨S6x16, .f32⟩
  | .local _ .vmem, ⟨9, _⟩ => ⟨S6x1, .f32⟩
  | .local _ .vmem, ⟨10, _⟩ => ⟨S5x1024x48, .f32⟩
  | .local _ .vmem, ⟨11, _⟩ => ⟨S5x1024x48, .f32⟩
  | .local _ .vmem, ⟨12, _⟩ => ⟨S6x1024, .f32⟩
  | .local _ .vmem, ⟨13, _⟩ => ⟨S6x1024, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x1024x36 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S36x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5x1024x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S131072x16 : Shape := ⟨2, ![131072, 16]⟩
abbrev S131072x6x8 : Shape := ⟨3, ![131072, 6, 8]⟩
abbrev S655360x6x6 : Shape := ⟨3, ![655360, 6, 6]⟩
abbrev S16x36 : Shape := ⟨2, ![16, 36]⟩
abbrev S36 : Shape := ⟨1, ![36]⟩
abbrev S16x6 : Shape := ⟨2, ![16, 6]⟩
abbrev S6 : Shape := ⟨1, ![6]⟩
abbrev S131072x36 : Shape := ⟨2, ![131072, 36]⟩
abbrev S1x36 : Shape := ⟨2, ![1, 36]⟩
abbrev S131072x6x6 : Shape := ⟨3, ![131072, 6, 6]⟩
abbrev S1x131072x1x6x1x6 : Shape := ⟨6, ![1, 131072, 1, 6, 1, 6]⟩
abbrev S5x131072x1x6x1x6 : Shape := ⟨6, ![5, 131072, 1, 6, 1, 6]⟩
abbrev S_ : Shape := ⟨0, ![]⟩
abbrev S655360x6 : Shape := ⟨2, ![655360, 6]⟩
abbrev S655360x6x1 : Shape := ⟨3, ![655360, 6, 1]⟩
abbrev S655360x1x6 : Shape := ⟨3, ![655360, 1, 6]⟩
abbrev S1x131072x1x6x1x8 : Shape := ⟨6, ![1, 131072, 1, 6, 1, 8]⟩
abbrev S5x131072x1x6x1x8 : Shape := ⟨6, ![5, 131072, 1, 6, 1, 8]⟩
abbrev S655360x6x8 : Shape := ⟨3, ![655360, 6, 8]⟩
abbrev S131072x6 : Shape := ⟨2, ![131072, 6]⟩
abbrev S1x6 : Shape := ⟨2, ![1, 6]⟩
abbrev S131072 : Shape := ⟨1, ![131072]⟩
abbrev S131072x1 : Shape := ⟨2, ![131072, 1]⟩

abbrev nBuf : Space → Nat
  | .hbm => 265
  | .vmem => 0
  | .smem => 0
  | _ => 0

abbrev hbmTy0_0 (i : Nat) : BufTy := match i % 128 with
  | 0 => ⟨S131072x16, .f32⟩
  | 1 => ⟨S131072x6x8, .f32⟩
  | 2 => ⟨S655360x6x6, .f32⟩
  | 3 => ⟨S16x36, .f32⟩
  | 4 => ⟨S36, .f32⟩
  | 5 => ⟨S16x6, .f32⟩
  | 6 => ⟨S6, .f32⟩
  | 7 => ⟨S131072x36, .f32⟩
  | 8 => ⟨S1x36, .f32⟩
  | 9 => ⟨S131072x36, .f32⟩
  | 10 => ⟨S131072x36, .f32⟩
  | 11 => ⟨S131072x6x6, .f32⟩
  | 12 => ⟨S1x131072x1x6x1x6, .f32⟩
  | 13 => ⟨S5x131072x1x6x1x6, .f32⟩
  | 14 => ⟨S655360x6x6, .f32⟩
  | 15 => ⟨S_, .f32⟩
  | 16 => ⟨S655360x6x6, .f32⟩
  | 17 => ⟨S655360x6x6, .f32⟩
  | 18 => ⟨S655360x6x6, .f32⟩
  | 19 => ⟨S_, .f32⟩
  | 20 => ⟨S655360x6x6, .f32⟩
  | 21 => ⟨S655360x6x6, .f32⟩
  | 22 => ⟨S655360x6x6, .f32⟩
  | 23 => ⟨S655360x6x6, .f32⟩
  | 24 => ⟨S_, .f32⟩
  | 25 => ⟨S655360x6x6, .f32⟩
  | 26 => ⟨S655360x6x6, .f32⟩
  | 27 => ⟨S655360x6x6, .f32⟩
  | 28 => ⟨S_, .f32⟩
  | 29 => ⟨S655360x6x6, .f32⟩
  | 30 => ⟨S655360x6x6, .f32⟩
  | 31 => ⟨S_, .f32⟩
  | 32 => ⟨S655360x6, .f32⟩
  | 33 => ⟨S655360x6x1, .f32⟩
  | 34 => ⟨S655360x6x1, .f32⟩
  | 35 => ⟨S_, .f32⟩
  | 36 => ⟨S655360x6x1, .f32⟩
  | 37 => ⟨S655360x6x1, .i1⟩
  | 38 => ⟨S_, .f32⟩
  | 39 => ⟨S_, .f32⟩
  | 40 => ⟨S655360x6x1, .f32⟩
  | 41 => ⟨S655360x6x1, .f32⟩
  | 42 => ⟨S655360x6x6, .f32⟩
  | 43 => ⟨S655360x6x6, .f32⟩
  | 44 => ⟨S655360x6x6, .f32⟩
  | 45 => ⟨S_, .f32⟩
  | 46 => ⟨S655360x6, .f32⟩
  | 47 => ⟨S655360x6x1, .f32⟩
  | 48 => ⟨S655360x6x1, .f32⟩
  | 49 => ⟨S655360x6x1, .f32⟩
  | 50 => ⟨S655360x6x6, .f32⟩
  | 51 => ⟨S655360x6x6, .f32⟩
  | 52 => ⟨S_, .f32⟩
  | 53 => ⟨S655360x6, .f32⟩
  | 54 => ⟨S655360x1x6, .f32⟩
  | 55 => ⟨S655360x1x6, .f32⟩
  | 56 => ⟨S_, .f32⟩
  | 57 => ⟨S655360x1x6, .f32⟩
  | 58 => ⟨S655360x1x6, .i1⟩
  | 59 => ⟨S_, .f32⟩
  | 60 => ⟨S_, .f32⟩
  | 61 => ⟨S655360x1x6, .f32⟩
  | 62 => ⟨S655360x1x6, .f32⟩
  | 63 => ⟨S655360x6x6, .f32⟩
  | 64 => ⟨S655360x6x6, .f32⟩
  | 65 => ⟨S655360x6x6, .f32⟩
  | 66 => ⟨S_, .f32⟩
  | 67 => ⟨S655360x6, .f32⟩
  | 68 => ⟨S655360x1x6, .f32⟩
  | 69 => ⟨S655360x1x6, .f32⟩
  | 70 => ⟨S655360x1x6, .f32⟩
  | 71 => ⟨S655360x6x6, .f32⟩
  | 72 => ⟨S655360x6x6, .f32⟩
  | 73 => ⟨S_, .f32⟩
  | 74 => ⟨S655360x6, .f32⟩
  | 75 => ⟨S655360x6x1, .f32⟩
  | 76 => ⟨S655360x6x1, .f32⟩
  | 77 => ⟨S_, .f32⟩
  | 78 => ⟨S655360x6x1, .f32⟩
  | 79 => ⟨S655360x6x1, .i1⟩
  | 80 => ⟨S_, .f32⟩
  | 81 => ⟨S_, .f32⟩
  | 82 => ⟨S655360x6x1, .f32⟩
  | 83 => ⟨S655360x6x1, .f32⟩
  | 84 => ⟨S655360x6x6, .f32⟩
  | 85 => ⟨S655360x6x6, .f32⟩
  | 86 => ⟨S655360x6x6, .f32⟩
  | 87 => ⟨S_, .f32⟩
  | 88 => ⟨S655360x6, .f32⟩
  | 89 => ⟨S655360x6x1, .f32⟩
  | 90 => ⟨S655360x6x1, .f32⟩
  | 91 => ⟨S655360x6x1, .f32⟩
  | 92 => ⟨S655360x6x6, .f32⟩
  | 93 => ⟨S655360x6x6, .f32⟩
  | 94 => ⟨S_, .f32⟩
  | 95 => ⟨S655360x6, .f32⟩
  | 96 => ⟨S655360x1x6, .f32⟩
  | 97 => ⟨S655360x1x6, .f32⟩
  | 98 => ⟨S_, .f32⟩
  | 99 => ⟨S655360x1x6, .f32⟩
  | 100 => ⟨S655360x1x6, .i1⟩
  | 101 => ⟨S_, .f32⟩
  | 102 => ⟨S_, .f32⟩
  | 103 => ⟨S655360x1x6, .f32⟩
  | 104 => ⟨S655360x1x6, .f32⟩
  | 105 => ⟨S655360x6x6, .f32⟩
  | 106 => ⟨S655360x6x6, .f32⟩
  | 107 => ⟨S655360x6x6, .f32⟩
  | 108 => ⟨S_, .f32⟩
  | 109 => ⟨S655360x6, .f32⟩
  | 110 => ⟨S655360x1x6, .f32⟩
  | 111 => ⟨S655360x1x6, .f32⟩
  | 112 => ⟨S655360x1x6, .f32⟩
  | 113 => ⟨S655360x6x6, .f32⟩
  | 114 => ⟨S655360x6x6, .f32⟩
  | 115 => ⟨S_, .f32⟩
  | 116 => ⟨S655360x6, .f32⟩
  | 117 => ⟨S655360x6x1, .f32⟩
  | 118 => ⟨S655360x6x1, .f32⟩
  | 119 => ⟨S_, .f32⟩
  | 120 => ⟨S655360x6x1, .f32⟩
  | 121 => ⟨S655360x6x1, .i1⟩
  | 122 => ⟨S_, .f32⟩
  | 123 => ⟨S_, .f32⟩
  | 124 => ⟨S655360x6x1, .f32⟩
  | 125 => ⟨S655360x6x1, .f32⟩
  | 126 => ⟨S655360x6x6, .f32⟩
  | 127 => ⟨S655360x6x6, .f32⟩
  | _ => ⟨S131072x16, .f32⟩

abbrev hbmTy0_1 (i : Nat) : BufTy := match i % 128 with
  | 0 => ⟨S655360x6x6, .f32⟩
  | 1 => ⟨S_, .f32⟩
  | 2 => ⟨S655360x6, .f32⟩
  | 3 => ⟨S655360x6x1, .f32⟩
  | 4 => ⟨S655360x6x1, .f32⟩
  | 5 => ⟨S655360x6x1, .f32⟩
  | 6 => ⟨S655360x6x6, .f32⟩
  | 7 => ⟨S655360x6x6, .f32⟩
  | 8 => ⟨S_, .f32⟩
  | 9 => ⟨S655360x6, .f32⟩
  | 10 => ⟨S655360x1x6, .f32⟩
  | 11 => ⟨S655360x1x6, .f32⟩
  | 12 => ⟨S_, .f32⟩
  | 13 => ⟨S655360x1x6, .f32⟩
  | 14 => ⟨S655360x1x6, .i1⟩
  | 15 => ⟨S_, .f32⟩
  | 16 => ⟨S_, .f32⟩
  | 17 => ⟨S655360x1x6, .f32⟩
  | 18 => ⟨S655360x1x6, .f32⟩
  | 19 => ⟨S655360x6x6, .f32⟩
  | 20 => ⟨S655360x6x6, .f32⟩
  | 21 => ⟨S655360x6x6, .f32⟩
  | 22 => ⟨S_, .f32⟩
  | 23 => ⟨S655360x6, .f32⟩
  | 24 => ⟨S655360x1x6, .f32⟩
  | 25 => ⟨S655360x1x6, .f32⟩
  | 26 => ⟨S655360x1x6, .f32⟩
  | 27 => ⟨S655360x6x6, .f32⟩
  | 28 => ⟨S655360x6x6, .f32⟩
  | 29 => ⟨S_, .f32⟩
  | 30 => ⟨S655360x6, .f32⟩
  | 31 => ⟨S655360x6x1, .f32⟩
  | 32 => ⟨S655360x6x1, .f32⟩
  | 33 => ⟨S_, .f32⟩
  | 34 => ⟨S655360x6x1, .f32⟩
  | 35 => ⟨S655360x6x1, .i1⟩
  | 36 => ⟨S_, .f32⟩
  | 37 => ⟨S_, .f32⟩
  | 38 => ⟨S655360x6x1, .f32⟩
  | 39 => ⟨S655360x6x1, .f32⟩
  | 40 => ⟨S655360x6x6, .f32⟩
  | 41 => ⟨S655360x6x6, .f32⟩
  | 42 => ⟨S655360x6x6, .f32⟩
  | 43 => ⟨S_, .f32⟩
  | 44 => ⟨S655360x6, .f32⟩
  | 45 => ⟨S655360x6x1, .f32⟩
  | 46 => ⟨S655360x6x1, .f32⟩
  | 47 => ⟨S655360x6x1, .f32⟩
  | 48 => ⟨S655360x6x6, .f32⟩
  | 49 => ⟨S655360x6x6, .f32⟩
  | 50 => ⟨S_, .f32⟩
  | 51 => ⟨S655360x6, .f32⟩
  | 52 => ⟨S655360x1x6, .f32⟩
  | 53 => ⟨S655360x1x6, .f32⟩
  | 54 => ⟨S_, .f32⟩
  | 55 => ⟨S655360x1x6, .f32⟩
  | 56 => ⟨S655360x1x6, .i1⟩
  | 57 => ⟨S_, .f32⟩
  | 58 => ⟨S_, .f32⟩
  | 59 => ⟨S655360x1x6, .f32⟩
  | 60 => ⟨S655360x1x6, .f32⟩
  | 61 => ⟨S655360x6x6, .f32⟩
  | 62 => ⟨S655360x6x6, .f32⟩
  | 63 => ⟨S655360x6x6, .f32⟩
  | 64 => ⟨S_, .f32⟩
  | 65 => ⟨S655360x6, .f32⟩
  | 66 => ⟨S655360x1x6, .f32⟩
  | 67 => ⟨S655360x1x6, .f32⟩
  | 68 => ⟨S655360x1x6, .f32⟩
  | 69 => ⟨S655360x6x6, .f32⟩
  | 70 => ⟨S655360x6x6, .f32⟩
  | 71 => ⟨S_, .f32⟩
  | 72 => ⟨S655360x6, .f32⟩
  | 73 => ⟨S655360x6x1, .f32⟩
  | 74 => ⟨S655360x6x1, .f32⟩
  | 75 => ⟨S_, .f32⟩
  | 76 => ⟨S655360x6x1, .f32⟩
  | 77 => ⟨S655360x6x1, .i1⟩
  | 78 => ⟨S_, .f32⟩
  | 79 => ⟨S_, .f32⟩
  | 80 => ⟨S655360x6x1, .f32⟩
  | 81 => ⟨S655360x6x1, .f32⟩
  | 82 => ⟨S655360x6x6, .f32⟩
  | 83 => ⟨S655360x6x6, .f32⟩
  | 84 => ⟨S655360x6x6, .f32⟩
  | 85 => ⟨S_, .f32⟩
  | 86 => ⟨S655360x6, .f32⟩
  | 87 => ⟨S655360x6x1, .f32⟩
  | 88 => ⟨S655360x6x1, .f32⟩
  | 89 => ⟨S655360x6x1, .f32⟩
  | 90 => ⟨S655360x6x6, .f32⟩
  | 91 => ⟨S655360x6x6, .f32⟩
  | 92 => ⟨S_, .f32⟩
  | 93 => ⟨S655360x6, .f32⟩
  | 94 => ⟨S655360x1x6, .f32⟩
  | 95 => ⟨S655360x1x6, .f32⟩
  | 96 => ⟨S_, .f32⟩
  | 97 => ⟨S655360x1x6, .f32⟩
  | 98 => ⟨S655360x1x6, .i1⟩
  | 99 => ⟨S_, .f32⟩
  | 100 => ⟨S_, .f32⟩
  | 101 => ⟨S655360x1x6, .f32⟩
  | 102 => ⟨S655360x1x6, .f32⟩
  | 103 => ⟨S655360x6x6, .f32⟩
  | 104 => ⟨S655360x6x6, .f32⟩
  | 105 => ⟨S655360x6x6, .f32⟩
  | 106 => ⟨S_, .f32⟩
  | 107 => ⟨S655360x6, .f32⟩
  | 108 => ⟨S655360x1x6, .f32⟩
  | 109 => ⟨S655360x1x6, .f32⟩
  | 110 => ⟨S655360x1x6, .f32⟩
  | 111 => ⟨S655360x6x6, .f32⟩
  | 112 => ⟨S655360x6x6, .f32⟩
  | 113 => ⟨S655360x6x6, .f32⟩
  | 114 => ⟨S655360x6x6, .f32⟩
  | 115 => ⟨S1x131072x1x6x1x8, .f32⟩
  | 116 => ⟨S5x131072x1x6x1x8, .f32⟩
  | 117 => ⟨S655360x6x8, .f32⟩
  | 118 => ⟨S655360x6x8, .f32⟩
  | 119 => ⟨S131072x6, .f32⟩
  | 120 => ⟨S1x6, .f32⟩
  | 121 => ⟨S131072x6, .f32⟩
  | 122 => ⟨S131072x6, .f32⟩
  | 123 => ⟨S_, .f32⟩
  | 124 => ⟨S131072, .f32⟩
  | 125 => ⟨S_, .f32⟩
  | 126 => ⟨S131072, .f32⟩
  | 127 => ⟨S131072, .f32⟩
  | _ => ⟨S131072x16, .f32⟩

abbrev hbmTy0_2 (i : Nat) : BufTy := match i % 128 with
  | 0 => ⟨S131072x1, .f32⟩
  | 1 => ⟨S131072x6, .f32⟩
  | 2 => ⟨S131072x6, .f32⟩
  | 3 => ⟨S131072x6, .f32⟩
  | 4 => ⟨S_, .f32⟩
  | 5 => ⟨S131072, .f32⟩
  | 6 => ⟨S131072x1, .f32⟩
  | 7 => ⟨S131072x6, .f32⟩
  | 8 => ⟨S131072x6, .f32⟩
  | _ => ⟨S131072x16, .f32⟩

abbrev hbmTy (i : Nat) : BufTy := match i / 128 with
  | 0 => hbmTy0_0 i
  | 1 => hbmTy0_1 i
  | 2 => hbmTy0_2 i
  | _ => ⟨S131072x16, .f32⟩

abbrev bufTy : (tb : Table) → Fin (tcTables nBuf tb) → BufTy
  | .hbm, ⟨i, _⟩ => hbmTy i
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_call2_v0 : Ref sig .tc := ⟨.hbm, 81, rfl⟩
abbrev main_call2_v1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_call3_v0 : Ref sig .tc := ⟨.hbm, 102, rfl⟩
abbrev main_call3_v1 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_20 : Ref sig .tc := ⟨.hbm, 119, rfl⟩
abbrev main_v83 : Ref sig .tc := ⟨.hbm, 120, rfl⟩
abbrev main_v84 : Ref sig .tc := ⟨.hbm, 121, rfl⟩
abbrev main_cst_21 : Ref sig .tc := ⟨.hbm, 122, rfl⟩
abbrev main_call4_v0 : Ref sig .tc := ⟨.hbm, 123, rfl⟩
abbrev main_call4_v1 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_22 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_23 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_24 : Ref sig .tc := ⟨.hbm, 140, rfl⟩
abbrev main_v98 : Ref sig .tc := ⟨.hbm, 141, rfl⟩
abbrev main_v99 : Ref sig .tc := ⟨.hbm, 142, rfl⟩
abbrev main_cst_25 : Ref sig .tc := ⟨.hbm, 143, rfl⟩
abbrev main_call5_v0 : Ref sig .tc := ⟨.hbm, 144, rfl⟩
abbrev main_call5_v1 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_26 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_27 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_28 : Ref sig .tc := ⟨.hbm, 161, rfl⟩
abbrev main_v113 : Ref sig .tc := ⟨.hbm, 162, rfl⟩
abbrev main_v114 : Ref sig .tc := ⟨.hbm, 163, rfl⟩
abbrev main_cst_29 : Ref sig .tc := ⟨.hbm, 164, rfl⟩
abbrev main_call6_v0 : Ref sig .tc := ⟨.hbm, 165, rfl⟩
abbrev main_call6_v1 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_30 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_31 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_32 : Ref sig .tc := ⟨.hbm, 182, rfl⟩
abbrev main_v128 : Ref sig .tc := ⟨.hbm, 183, rfl⟩
abbrev main_v129 : Ref sig .tc := ⟨.hbm, 184, rfl⟩
abbrev main_cst_33 : Ref sig .tc := ⟨.hbm, 185, rfl⟩
abbrev main_call7_v0 : Ref sig .tc := ⟨.hbm, 186, rfl⟩
abbrev main_call7_v1 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_34 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_35 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_36 : Ref sig .tc := ⟨.hbm, 203, rfl⟩
abbrev main_v143 : Ref sig .tc := ⟨.hbm, 204, rfl⟩
abbrev main_v144 : Ref sig .tc := ⟨.hbm, 205, rfl⟩
abbrev main_cst_37 : Ref sig .tc := ⟨.hbm, 206, rfl⟩
abbrev main_call8_v0 : Ref sig .tc := ⟨.hbm, 207, rfl⟩
abbrev main_call8_v1 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_cst_38 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_cst_39 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_40 : Ref sig .tc := ⟨.hbm, 224, rfl⟩
abbrev main_v158 : Ref sig .tc := ⟨.hbm, 225, rfl⟩
abbrev main_v159 : Ref sig .tc := ⟨.hbm, 226, rfl⟩
abbrev main_cst_41 : Ref sig .tc := ⟨.hbm, 227, rfl⟩
abbrev main_call9_v0 : Ref sig .tc := ⟨.hbm, 228, rfl⟩
abbrev main_call9_v1 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_42 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_cst_43 : Ref sig .tc := ⟨.hbm, 251, rfl⟩
abbrev main_v180 : Ref sig .tc := ⟨.hbm, 252, rfl⟩
abbrev main_cst_44 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_cst_45 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩

abbrev nD : Nat := 1
abbrev τ : Topo := Topo.v7x

variable {F : FTy → Type} [FloatOps F]
-- ==== Proof.Stages.lean ====
/- The kernel's values as repeated use of one normalising step. -/
module

public import proofs.«01_k».proof.Proof.Gen.KernelIdeal.Skeleton

@[expose] public section

set_option maxRecDepth 16384

noncomputable section

namespace Cert.KernelIdeal.Sinkhorn

open Idealize.ShloMosaic Idealize.SL.Sem
open Cert.KernelIdeal Cert.KernelIdeal.Gen

variable {F : FTy → Type} [FloatOps F]

/-- Six vectors, one per row of the 6 × 6 matrix: entry `(i, l)` of vector `r` is entry `(r, i)` of lane `l`'s matrix. -/
abbrev Rows (F : FTy → Type) := Fin 6 → FVec F S6x1024 .f32

/-- The sum of a row, in every lane. -/
def rs (x : FVec F S6x1024 .f32) : FVec F S1024 .f32 :=
  multiReduction .add [0] S1024 x 0x00000000#32 reduces_S6x1024_S1024 (.inl rfl) rfl

/-- The sum of a row, as a vector of one row. -/
def rb (x : FVec F S6x1024 .f32) : FVec F S1x1024 .f32 := shapeCast S1x1024 (rs x) shapeCasts_S1024_S1x1024

/-- A row divided by its sum. -/
def rn (x : FVec F S6x1024 .f32) : FVec F S6x1024 .f32 := divf x (broadcastTo S6x1024 (rb x) broadcasts_S1x1024_S6x1024)

/-- Every row divided by its sum. -/
def rns (x : Rows F) : Rows F := fun r => rn (x r)

/-- The first three rows added up. -/
def psum3 (y : Rows F) : FVec F S6x1024 .f32 := addf (addf (y 0) (y 1)) (y 2)

/-- The first four rows added up. -/
def psum4 (y : Rows F) : FVec F S6x1024 .f32 := addf (psum3 y) (y 3)

/-- One over the column sums. -/
def rcs (y : Rows F) : FVec F S6x1024 .f32 :=
  divf (broadcast S6x1024 (Scalar.ofBits .f32 0x3F800000#32)) (addf (addf (psum4 y) (y 4)) (y 5))

/-- One iteration: rows divided by their sums, then columns by theirs. -/
def step (x : Rows F) : Rows F := fun r => mulf (rn (x r)) (rcs (rns x))

/-- The logarithm of the shifted noise, one column per lane. -/
def lg (u : Vec F S1x1024x36 .f32) : FVec F S36x1024 .f32 :=
  log (addf (transpose S36x1024 [1, 0] (shapeCast S1024x36 u shapeCasts_S1x1024x36_S1024x36) transposes_S1024x36_p1_0_S36x1024)
    (broadcast S36x1024 (Scalar.ofBits .f32 0x1E3CE508#32)))

/-- The rows the iteration starts from. -/
def init (a : FVec F S36x1024 .f32) (u : Vec F S1x1024x36 .f32) : Rows F :=
  ![extractStridedSlice S6x1024 ![0, 0] (k0_pay12 a u) slices_S36x1024_o0_0_S6x1024,
    extractStridedSlice S6x1024 ![6, 0] (k0_pay12 a u) slices_S36x1024_o6_0_S6x1024,
    extractStridedSlice S6x1024 ![12, 0] (k0_pay12 a u) slices_S36x1024_o12_0_S6x1024,
    extractStridedSlice S6x1024 ![18, 0] (k0_pay12 a u) slices_S36x1024_o18_0_S6x1024,
    extractStridedSlice S6x1024 ![24, 0] (k0_pay12 a u) slices_S36x1024_o24_0_S6x1024,
    extractStridedSlice S6x1024 ![30, 0] (k0_pay12 a u) slices_S36x1024_o30_0_S6x1024]

/-- Column `i` of a row, repeated over the eight entries of a sequence element. -/
def col : Fin 6 → FVec F S6x1024 .f32 → FVec F S8x1024 .f32 :=
  ![fun y => broadcastTo S8x1024 (extractStridedSlice S1x1024 ![0, 0] y slices_S6x1024_o0_0_S1x1024) broadcasts_S1x1024_S8x1024,
    fun y => broadcastTo S8x1024 (extractStridedSlice S1x1024 ![1, 0] y slices_S6x1024_o1_0_S1x1024) broadcasts_S1x1024_S8x1024,
    fun y => broadcastTo S8x1024 (extractStridedSlice S1x1024 ![2, 0] y slices_S6x1024_o2_0_S1x1024) broadcasts_S1x1024_S8x1024,
    fun y => broadcastTo S8x1024 (extractStridedSlice S1x1024 ![3, 0] y slices_S6x1024_o3_0_S1x1024) broadcasts_S1x1024_S8x1024,
    fun y => broadcastTo S8x1024 (extractStridedSlice S1x1024 ![4, 0] y slices_S6x1024_o4_0_S1x1024) broadcasts_S1x1024_S8x1024,
    fun y => broadcastTo S8x1024 (extractStridedSlice S1x1024 ![5, 0] y slices_S6x1024_o5_0_S1x1024) broadcasts_S1x1024_S8x1024]

/-- Element `i` of the reordered sequence: the sequence's elements weighted by column `i`. -/
def mixRow (x : Rows F) (q : Fin 6 → FVec F S8x1024 .f32) (i : Fin 6) : FVec F S8x1024 .f32 :=
  addf (addf (addf (addf (addf (mulf (col i (x 0)) (q 0)) (mulf (col i (x 1)) (q 1))) (mulf (col i (x 2)) (q 2)))
    (mulf (col i (x 3)) (q 3))) (mulf (col i (x 4)) (q 4))) (mulf (col i (x 5)) (q 5))

/-- The block a sample stores: the six reordered elements side by side, one row per lane. -/
def mix (x : Rows F) (q : Fin 6 → FVec F S8x1024 .f32) : FVec F S1x1024x48 .f32 :=
  shapeCast S1x1024x48 (transpose S1024x48 [1, 0] (concatenate S48x1024 0 [⟨S8x1024, mixRow x q 0⟩, ⟨S8x1024, mixRow x q 1⟩,
    ⟨S8x1024, mixRow x q 2⟩, ⟨S8x1024, mixRow x q 3⟩, ⟨S8x1024, mixRow x q 4⟩, ⟨S8x1024, mixRow x q 5⟩]
    concatenates_S8x1024_S8x1024_S8x1024_S8x1024_S8x1024_S8x1024_S48x1024_d0) transposes_S48x1024_p1_0_S1024x48)
    shapeCasts_S1024x48_S1x1024x48

/-! The program cuts the five samples' computations at different places: what is kept between two cuts, said with the
functions above. Each statement is one stretch of one sample. -/

/-- What one stretch keeps, from what the stretch before it kept. -/
theorem stage0_1 (a : FVec F S36x1024 .f32) (u : Vec F S1x1024x36 .f32) :
    k0_pay20 a u = step (init a u) 0
    ∧ k0_pay21 a u = step (init a u) 1
    ∧ k0_pay22 a u = step (init a u) 2
    ∧ k0_pay23 a u = step (init a u) 3
    ∧ k0_pay24 a u = step (init a u) 4
    ∧ k0_pay25 a u = step (init a u) 5 :=
  ⟨rfl, rfl, rfl, rfl, rfl, rfl⟩

/-- What one stretch keeps, from what the stretch before it kept. -/
theorem stage0_2 (x : Rows F) :
    k0_pay33 (x 0) (x 1) (x 2) (x 3) (x 4) (x 5) = step x 3
    ∧ k0_pay34 (x 0) (x 1) (x 2) (x 3) (x 4) (x 5) = step x 4
    ∧ k0_pay35 (x 0) (x 1) (x 2) (x 3) (x 4) (x 5) = step x 5
    ∧ k0_pay36 (x 0) (x 1) (x 2) (x 3) (x 4) (x 5) = rn (step x 0)
    ∧ k0_pay37 (x 0) (x 1) (x 2) (x 3) (x 4) (x 5) = rn (step x 1)
    ∧ k0_pay38 (x 0) (x 1) (x 2) (x 3) (x 4) (x 5) = rn (step x 2) :=
  ⟨rfl, rfl, rfl, rfl, rfl, rfl⟩

/-- What one stretch keeps, from what the stretch before it kept. -/
theorem stage0_3 (x : Rows F) :
    k0_pay43 (x 3) (x 4) (x 5) (rn (x 0)) (rn (x 1)) (rn (x 2)) = rn (step x 0)
    ∧ k0_pay44 (x 3) (x 4) (x 5) (rn (x 0)) (rn (x 1)) (rn (x 2)) = rn (step x 1)
    ∧ k0_pay45 (x 3) (x 4) (x 5) (rn (x 0)) (rn (x 1)) (rn (x 2)) = rn (step x 2)
    ∧ k0_pay46 (x 3) (x 4) (x 5) (rn (x 0)) (rn (x 1)) (rn (x 2)) = rn (step x 3)
    ∧ k0_pay47 (x 3) (x 4) (x 5) (rn (x 0)) (rn (x 1)) (rn (x 2)) = rn (step x 4)
    ∧ k0_pay48 (x 3) (x 4) (x 5) (rn (x 0)) (rn (x 1)) (rn (x 2)) = rn (step x 5)
    ∧ k0_pay49 (x 3) (x 4) (x 5) (rn (x 0)) (rn (x 1)) (rn (x 2)) = psum3 (rns (step x)) :=
  ⟨rfl, rfl, rfl, rfl, rfl, rfl, rfl⟩

/-- What one stretch keeps, from what the stretch before it kept. -/
theorem stage0_4 (x : Rows F) :
    k0_pay58 (rn (x 0)) (rn (x 1)) (rn (x 2)) (rn (x 3)) (rn (x 4)) (rn (x 5)) (psum3 (rns x)) = step (step x) 0
    ∧ k0_pay59 (rn (x 0)) (rn (x 1)) (rn (x 2)) (rn (x 3)) (rn (x 4)) (rn (x 5)) (psum3 (rns x)) = step (step x) 1
    ∧ k0_pay60 (rn (x 0)) (rn (x 1)) (rn (x 2)) (rn (x 3)) (rn (x 4)) (rn (x 5)) (psum3 (rns x)) = step (step x) 2
    ∧ k0_pay61 (rn (x 0)) (rn (x 1)) (rn (x 2)) (rn (x 3)) (rn (x 4)) (rn (x 5)) (psum3 (rns x)) = step (step x) 3
    ∧ k0_pay62 (rn (x 0)) (rn (x 1)) (rn (x 2)) (rn (x 3)) (rn (x 4)) (rn (x 5)) (psum3 (rns x)) = step (step x) 4
    ∧ k0_pay63 (rn (x 0)) (rn (x 1)) (rn (x 2)) (rn (x 3)) (rn (x 4)) (rn (x 5)) (psum3 (rns x)) = step (step x) 5 :=
  ⟨rfl, rfl, rfl, rfl, rfl, rfl⟩

/-- What one stretch keeps, from what the stretch before it kept. -/
theorem stage1_1 (a : FVec F S36x1024 .f32) (u : Vec F S1x1024x36 .f32) :
    k0_pay77 a u = init a u 3
    ∧ k0_pay78 a u = init a u 4
    ∧ k0_pay79 a u = init a u 5
    ∧ k0_pay80 a u = rn (init a u 0)
    ∧ k0_pay81 a u = rn (init a u 1)
    ∧ k0_pay82 a u = rn (init a u 2)
    ∧ k0_pay83 a u = rs (init a u 3) :=
  ⟨rfl, rfl, rfl, rfl, rfl, rfl, rfl⟩

/-- What one stretch keeps, from what the stretch before it kept. -/
theorem stage1_2 (x : Rows F) :
    k0_pay88 (x 3) (x 4) (x 5) (rn (x 0)) (rn (x 1)) (rn (x 2)) (rs (x 3)) = rn (step x 0)
    ∧ k0_pay89 (x 3) (x 4) (x 5) (rn (x 0)) (rn (x 1)) (rn (x 2)) (rs (x 3)) = rn (step x 1)
    ∧ k0_pay90 (x 3) (x 4) (x 5) (rn (x 0)) (rn (x 1)) (rn (x 2)) (rs (x 3)) = rn (step x 2)
    ∧ k0_pay91 (x 3) (x 4) (x 5) (rn (x 0)) (rn (x 1)) (rn (x 2)) (rs (x 3)) = rn (step x 3)
    ∧ k0_pay92 (x 3) (x 4) (x 5) (rn (x 0)) (rn (x 1)) (rn (x 2)) (rs (x 3)) = rn (step x 4)
    ∧ k0_pay93 (x 3) (x 4) (x 5) (rn (x 0)) (rn (x 1)) (rn (x 2)) (rs (x 3)) = rn (step x 5)
    ∧ k0_pay94 (x 3) (x 4) (x 5) (rn (x 0)) (rn (x 1)) (rn (x 2)) (rs (x 3)) = psum4 (rns (step x)) :=
  ⟨rfl, rfl, rfl, rfl, rfl, rfl, rfl⟩

/-- What one stretch keeps, from what the stretch before it kept. -/
theorem stage1_3 (x : Rows F) :
    k0_pay103 (rn (x 0)) (rn (x 1)) (rn (x 2)) (rn (x 3)) (rn (x 4)) (rn (x 5)) (psum4 (rns x)) = step (step x) 1
    ∧ k0_pay104 (rn (x 0)) (rn (x 1)) (rn (x 2)) (rn (x 3)) (rn (x 4)) (rn (x 5)) (psum4 (rns x)) = step (step x) 2
    ∧ k0_pay105 (rn (x 0)) (rn (x 1)) (rn (x 2)) (rn (x 3)) (rn (x 4)) (rn (x 5)) (psum4 (rns x)) = step (step x) 3
    ∧ k0_pay106 (rn (x 0)) (rn (x 1)) (rn (x 2)) (rn (x 3)) (rn (x 4)) (rn (x 5)) (psum4 (rns x)) = step (step x) 4
    ∧ k0_pay107 (rn (x 0)) (rn (x 1)) (rn (x 2)) (rn (x 3)) (rn (x 4)) (rn (x 5)) (psum4 (rns x)) = step (step x) 5
    ∧ k0_pay108 (rn (x 0)) (rn (x 1)) (rn (x 2)) (rn (x 3)) (rn (x 4)) (rn (x 5)) (psum4 (rns x)) = rn (step (step x) 0) :=
  ⟨rfl, rfl, rfl, rfl, rfl, rfl⟩

/-- What one stretch keeps, from what the stretch before it kept. -/
theorem stage1_4 (x : Rows F) :
    k0_pay115 (x 1) (x 2) (x 3) (x 4) (x 5) (rn (x 0)) = step x 4
    ∧ k0_pay116 (x 1) (x 2) (x 3) (x 4) (x 5) (rn (x 0)) = step x 5
    ∧ k0_pay117 (x 1) (x 2) (x 3) (x 4) (x 5) (rn (x 0)) = rn (step x 0)
    ∧ k0_pay118 (x 1) (x 2) (x 3) (x 4) (x 5) (rn (x 0)) = rn (step x 1)
    ∧ k0_pay119 (x 1) (x 2) (x 3) (x 4) (x 5) (rn (x 0)) = rn (step x 2)
    ∧ k0_pay120 (x 1) (x 2) (x 3) (x 4) (x 5) (rn (x 0)) = rn (step x 3) :=
  ⟨rfl, rfl, rfl, rfl, rfl, rfl⟩

/-- What one stretch keeps, from what the stretch before it kept. -/
theorem stage1_5 (x : Rows F) :
    k0_pay124 (x 4) (x 5) (rn (x 0)) (rn (x 1)) (rn (x 2)) (rn (x 3)) = step x 0
    ∧ k0_pay125 (x 4) (x 5) (rn (x 0)) (rn (x 1)) (rn (x 2)) (rn (x 3)) = step x 1
    ∧ k0_pay126 (x 4) (x 5) (rn (x 0)) (rn (x 1)) (rn (x 2)) (rn (x 3)) = step x 2
    ∧ k0_pay127 (x 4) (x 5) (rn (x 0)) (rn (x 1)) (rn (x 2)) (rn (x 3)) = step x 3
    ∧ k0_pay128 (x 4) (x 5) (rn (x 0)) (rn (x 1)) (rn (x 2)) (rn (x 3)) = step x 4
    ∧ k0_pay129 (x 4) (x 5) (rn (x 0)) (rn (x 1)) (rn (x 2)) (rn (x 3)) = step x 5 :=
  ⟨rfl, rfl, rfl, rfl, rfl, rfl⟩

/-- What one stretch keeps, from what the stretch before it kept. -/
theorem stage2_1 (a : FVec F S36x1024 .f32) (u : Vec F S1x1024x36 .f32) :
    k0_pay139 u = lg u := rfl

/-- What one stretch keeps, from what the stretch before it kept. -/
theorem stage2_2 (a : FVec F S36x1024 .f32) (u : Vec F S1x1024x36 .f32) :
    k0_pay148 a (lg u) = step (init a u) 1
    ∧ k0_pay149 a (lg u) = step (init a u) 2
    ∧ k0_pay150 a (lg u) = step (init a u) 3
    ∧ k0_pay151 a (lg u) = step (init a u) 4
    ∧ k0_pay152 a (lg u) = step (init a u) 5
    ∧ k0_pay153 a (lg u) = rn (step (init a u) 0) :=
  ⟨rfl, rfl, rfl, rfl, rfl, rfl⟩

/-- What one stretch keeps, from what the stretch before it kept. -/
theorem stage2_3 (x : Rows F) :
    k0_pay160 (x 1) (x 2) (x 3) (x 4) (x 5) (rn (x 0)) = step x 4
    ∧ k0_pay161 (x 1) (x 2) (x 3) (x 4) (x 5) (rn (x 0)) = step x 5
    ∧ k0_pay162 (x 1) (x 2) (x 3) (x 4) (x 5) (rn (x 0)) = rn (step x 0)
    ∧ k0_pay163 (x 1) (x 2) (x 3) (x 4) (x 5) (rn (x 0)) = rn (step x 1)
    ∧ k0_pay164 (x 1) (x 2) (x 3) (x 4) (x 5) (rn (x 0)) = rn (step x 2)
    ∧ k0_pay165 (x 1) (x 2) (x 3) (x 4) (x 5) (rn (x 0)) = rn (step x 3)
    ∧ k0_pay166 (x 1) (x 2) (x 3) (x 4) (x 5) (rn (x 0)) = rs (step x 4) :=
  ⟨rfl, rfl, rfl, rfl, rfl, rfl, rfl⟩

/-- What one stretch keeps, from what the stretch before it kept. -/
theorem stage2_4 (x : Rows F) :
    k0_pay170 (x 4) (x 5) (rn (x 0)) (rn (x 1)) (rn (x 2)) (rn (x 3)) (rs (x 4)) = rn (step x 0)
    ∧ k0_pay171 (x 4) (x 5) (rn (x 0)) (rn (x 1)) (rn (x 2)) (rn (x 3)) (rs (x 4)) = rn (step x 1)
    ∧ k0_pay172 (x 4) (x 5) (rn (x 0)) (rn (x 1)) (rn (x 2)) (rn (x 3)) (rs (x 4)) = rn (step x 2)
    ∧ k0_pay173 (x 4) (x 5) (rn (x 0)) (rn (x 1)) (rn (x 2)) (rn (x 3)) (rs (x 4)) = rn (step x 3)
    ∧ k0_pay174 (x 4) (x 5) (rn (x 0)) (rn (x 1)) (rn (x 2)) (rn (x 3)) (rs (x 4)) = rn (step x 4)
    ∧ k0_pay175 (x 4) (x 5) (rn (x 0)) (rn (x 1)) (rn (x 2)) (rn (x 3)) (rs (x 4)) = rn (step x 5)
    ∧ k0_pay176 (x 4) (x 5) (rn (x 0)) (rn (x 1)) (rn (x 2)) (rn (x 3)) (rs (x 4)) = rcs (rns (step x)) :=
  ⟨rfl, rfl, rfl, rfl, rfl, rfl, rfl⟩

/-- What one stretch keeps, from what the stretch before it kept. -/
theorem stage2_5 (x : Rows F) :
    k0_pay184 (rn (x 0)) (rn (x 1)) (rn (x 2)) (rn (x 3)) (rn (x 4)) (rn (x 5)) (rcs (rns x)) = step (step x) 0
    ∧ k0_pay185 (rn (x 0)) (rn (x 1)) (rn (x 2)) (rn (x 3)) (rn (x 4)) (rn (x 5)) (rcs (rns x)) = step (step x) 1
    ∧ k0_pay186 (rn (x 0)) (rn (x 1)) (rn (x 2)) (rn (x 3)) (rn (x 4)) (rn (x 5)) (rcs (rns x)) = step (step x) 2
    ∧ k0_pay187 (rn (x 0)) (rn (x 1)) (rn (x 2)) (rn (x 3)) (rn (x 4)) (rn (x 5)) (rcs (rns x)) = step (step x) 3
    ∧ k0_pay188 (rn (x 0)) (rn (x 1)) (rn (x 2)) (rn (x 3)) (rn (x 4)) (rn (x 5)) (rcs (rns x)) = step (step x) 4
    ∧ k0_pay189 (rn (x 0)) (rn (x 1)) (rn (x 2)) (rn (x 3)) (rn (x 4)) (rn (x 5)) (rcs (rns x)) = step (step x) 5 :=
  ⟨rfl, rfl, rfl, rfl, rfl, rfl⟩

/-- What one stretch keeps, from what the stretch before it kept. -/
theorem stage3_1 (a : FVec F S36x1024 .f32) (u : Vec F S1x1024x36 .f32) :
    k0_pay201 a u = init a u 4
    ∧ k0_pay202 a u = init a u 5
    ∧ k0_pay203 a u = rn (init a u 0)
    ∧ k0_pay204 a u = rn (init a u 1)
    ∧ k0_pay205 a u = rn (init a u 2)
    ∧ k0_pay206 a u = rn (init a u 3)
    ∧ k0_pay207 a u = rb (init a u 4) :=
  ⟨rfl, rfl, rfl, rfl, rfl, rfl, rfl⟩

/-- What one stretch keeps, from what the stretch before it kept. -/
theorem stage3_2 (x : Rows F) :
    k0_pay212 (x 4) (x 5) (rn (x 0)) (rn (x 1)) (rn (x 2)) (rn (x 3)) (rb (x 4)) = rn (step x 1)
    ∧ k0_pay213 (x 4) (x 5) (rn (x 0)) (rn (x 1)) (rn (x 2)) (rn (x 3)) (rb (x 4)) = rn (step x 2)
    ∧ k0_pay214 (x 4) (x 5) (rn (x 0)) (rn (x 1)) (rn (x 2)) (rn (x 3)) (rb (x 4)) = rn (step x 3)
    ∧ k0_pay215 (x 4) (x 5) (rn (x 0)) (rn (x 1)) (rn (x 2)) (rn (x 3)) (rb (x 4)) = rn (step x 4)
    ∧ k0_pay216 (x 4) (x 5) (rn (x 0)) (rn (x 1)) (rn (x 2)) (rn (x 3)) (rb (x 4)) = rn (step x 5)
    ∧ k0_pay217 (x 4) (x 5) (rn (x 0)) (rn (x 1)) (rn (x 2)) (rn (x 3)) (rb (x 4)) = rcs (rns (step x))
    ∧ k0_pay218 (x 4) (x 5) (rn (x 0)) (rn (x 1)) (rn (x 2)) (rn (x 3)) (rb (x 4)) = step (step x) 0 :=
  ⟨rfl, rfl, rfl, rfl, rfl, rfl, rfl⟩

/-- What one stretch keeps, from what the stretch before it kept. -/
theorem stage3_3 (x : Rows F) :
    k0_pay226 (rn (x 1)) (rn (x 2)) (rn (x 3)) (rn (x 4)) (rn (x 5)) (rcs (rns x)) (step x 0) = step (step x) 2
    ∧ k0_pay227 (rn (x 1)) (rn (x 2)) (rn (x 3)) (rn (x 4)) (rn (x 5)) (rcs (rns x)) (step x 0) = step (step x) 3
    ∧ k0_pay228 (rn (x 1)) (rn (x 2)) (rn (x 3)) (rn (x 4)) (rn (x 5)) (rcs (rns x)) (step x 0) = step (step x) 4
    ∧ k0_pay229 (rn (x 1)) (rn (x 2)) (rn (x 3)) (rn (x 4)) (rn (x 5)) (rcs (rns x)) (step x 0) = step (step x) 5
    ∧ k0_pay230 (rn (x 1)) (rn (x 2)) (rn (x 3)) (rn (x 4)) (rn (x 5)) (rcs (rns x)) (step x 0) = rn (step (step x) 0)
    ∧ k0_pay231 (rn (x 1)) (rn (x 2)) (rn (x 3)) (rn (x 4)) (rn (x 5)) (rcs (rns x)) (step x 0) = rn (step (step x) 1) :=
  ⟨rfl, rfl, rfl, rfl, rfl, rfl⟩

/-- What one stretch keeps, from what the stretch before it kept. -/
theorem stage3_4 (x : Rows F) :
    k0_pay237 (x 2) (x 3) (x 4) (x 5) (rn (x 0)) (rn (x 1)) = step x 5
    ∧ k0_pay238 (x 2) (x 3) (x 4) (x 5) (rn (x 0)) (rn (x 1)) = rn (step x 0)
    ∧ k0_pay239 (x 2) (x 3) (x 4) (x 5) (rn (x 0)) (rn (x 1)) = rn (step x 1)
    ∧ k0_pay240 (x 2) (x 3) (x 4) (x 5) (rn (x 0)) (rn (x 1)) = rn (step x 2)
    ∧ k0_pay241 (x 2) (x 3) (x 4) (x 5) (rn (x 0)) (rn (x 1)) = rn (step x 3)
    ∧ k0_pay242 (x 2) (x 3) (x 4) (x 5) (rn (x 0)) (rn (x 1)) = rn (step x 4)
    ∧ k0_pay243 (x 2) (x 3) (x 4) (x 5) (rn (x 0)) (rn (x 1)) = rs (step x 5) :=
  ⟨rfl, rfl, rfl, rfl, rfl, rfl, rfl⟩

/-- What one stretch keeps, from what the stretch before it kept. -/
theorem stage3_5 (x : Rows F) :
    k0_pay246 (x 5) (rn (x 0)) (rn (x 1)) (rn (x 2)) (rn (x 3)) (rn (x 4)) (rs (x 5)) = step x 0
    ∧ k0_pay247 (x 5) (rn (x 0)) (rn (x 1)) (rn (x 2)) (rn (x 3)) (rn (x 4)) (rs (x 5)) = step x 1
    ∧ k0_pay248 (x 5) (rn (x 0)) (rn (x 1)) (rn (x 2)) (rn (x 3)) (rn (x 4)) (rs (x 5)) = step x 2
    ∧ k0_pay249 (x 5) (rn (x 0)) (rn (x 1)) (rn (x 2)) (rn (x 3)) (rn (x 4)) (rs (x 5)) = step x 3
    ∧ k0_pay250 (x 5) (rn (x 0)) (rn (x 1)) (rn (x 2)) (rn (x 3)) (rn (x 4)) (rs (x 5)) = step x 4
    ∧ k0_pay251 (x 5) (rn (x 0)) (rn (x 1)) (rn (x 2)) (rn (x 3)) (rn (x 4)) (rs (x 5)) = step x 5 :=
  ⟨rfl, rfl, rfl, rfl, rfl, rfl⟩

/-- What one stretch keeps, from what the stretch before it kept. -/
theorem stage4_1 (a : FVec F S36x1024 .f32) (u : Vec F S1x1024x36 .f32) :
    k0_pay260 a u = k0_pay12 a u
    ∧ k0_pay261 a u = init a u 0
    ∧ k0_pay262 a u = init a u 1 :=
  ⟨rfl, rfl, rfl⟩

/-- What one stretch keeps, from what the stretch before it kept. -/
theorem stage4_2 (a : FVec F S36x1024 .f32) (u : Vec F S1x1024x36 .f32) :
    k0_pay270 (k0_pay12 a u) (init a u 0) (init a u 1) = step (init a u) 2
    ∧ k0_pay271 (k0_pay12 a u) (init a u 0) (init a u 1) = step (init a u) 3
    ∧ k0_pay272 (k0_pay12 a u) (init a u 0) (init a u 1) = step (init a u) 4
    ∧ k0_pay273 (k0_pay12 a u) (init a u 0) (init a u 1) = step (init a u) 5
    ∧ k0_pay274 (k0_pay12 a u) (init a u 0) (init a u 1) = rn (step (init a u) 0)
    ∧ k0_pay275 (k0_pay12 a u) (init a u 0) (init a u 1) = rn (step (init a u) 1)
    ∧ k0_pay276 (k0_pay12 a u) (init a u 0) (init a u 1) = rs (step (init a u) 2) :=
  ⟨rfl, rfl, rfl, rfl, rfl, rfl, rfl⟩

/-- What one stretch keeps, from what the stretch before it kept. -/
theorem stage4_3 (x : Rows F) :
    k0_pay282 (x 2) (x 3) (x 4) (x 5) (rn (x 0)) (rn (x 1)) (rs (x 2)) = step x 5
    ∧ k0_pay283 (x 2) (x 3) (x 4) (x 5) (rn (x 0)) (rn (x 1)) (rs (x 2)) = rn (step x 0)
    ∧ k0_pay284 (x 2) (x 3) (x 4) (x 5) (rn (x 0)) (rn (x 1)) (rs (x 2)) = rn (step x 1)
    ∧ k0_pay285 (x 2) (x 3) (x 4) (x 5) (rn (x 0)) (rn (x 1)) (rs (x 2)) = rn (step x 2)
    ∧ k0_pay286 (x 2) (x 3) (x 4) (x 5) (rn (x 0)) (rn (x 1)) (rs (x 2)) = rn (step x 3)
    ∧ k0_pay287 (x 2) (x 3) (x 4) (x 5) (rn (x 0)) (rn (x 1)) (rs (x 2)) = rn (step x 4)
    ∧ k0_pay288 (x 2) (x 3) (x 4) (x 5) (rn (x 0)) (rn (x 1)) (rs (x 2)) = rb (step x 5) :=
  ⟨rfl, rfl, rfl, rfl, rfl, rfl, rfl⟩

/-- What one stretch keeps, from what the stretch before it kept. -/
theorem stage4_4 (x : Rows F) :
    k0_pay298 (x 5) (rn (x 0)) (rn (x 1)) (rn (x 2)) (rn (x 3)) (rn (x 4)) (rb (x 5)) = step (step x) 0
    ∧ k0_pay299 (x 5) (rn (x 0)) (rn (x 1)) (rn (x 2)) (rn (x 3)) (rn (x 4)) (rb (x 5)) = step (step x) 1
    ∧ k0_pay300 (x 5) (rn (x 0)) (rn (x 1)) (rn (x 2)) (rn (x 3)) (rn (x 4)) (rb (x 5)) = step (step x) 2
    ∧ k0_pay301 (x 5) (rn (x 0)) (rn (x 1)) (rn (x 2)) (rn (x 3)) (rn (x 4)) (rb (x 5)) = step (step x) 3
    ∧ k0_pay302 (x 5) (rn (x 0)) (rn (x 1)) (rn (x 2)) (rn (x 3)) (rn (x 4)) (rb (x 5)) = step (step x) 4
    ∧ k0_pay303 (x 5) (rn (x 0)) (rn (x 1)) (rn (x 2)) (rn (x 3)) (rn (x 4)) (rb (x 5)) = step (step x) 5 :=
  ⟨rfl, rfl, rfl, rfl, rfl, rfl⟩

/-- What one stretch keeps, from what the stretch before it kept. -/
theorem stage4_5 (x : Rows F) :
    k0_pay311 (x 0) (x 1) (x 2) (x 3) (x 4) (x 5) = step x 0
    ∧ k0_pay312 (x 0) (x 1) (x 2) (x 3) (x 4) (x 5) = step x 1
    ∧ k0_pay313 (x 0) (x 1) (x 2) (x 3) (x 4) (x 5) = step x 2
    ∧ k0_pay314 (x 0) (x 1) (x 2) (x 3) (x 4) (x 5) = step x 3
    ∧ k0_pay315 (x 0) (x 1) (x 2) (x 3) (x 4) (x 5) = step x 4
    ∧ k0_pay316 (x 0) (x 1) (x 2) (x 3) (x 4) (x 5) = step x 5 :=
  ⟨rfl, rfl, rfl, rfl, rfl, rfl⟩

/-- The block that a sample stores, from what the last cut kept. -/
theorem mixed0 (x : Rows F) (q : Fin 6 → FVec F S8x1024 .f32) :
    k0_pay75 (q 2) (q 3) (q 4) (q 5) (step (step x) 3) (step (step x) 4) (step (step x) 5) (k0_pay66 (q 1) (q 2) (q 3) (q 4) (q 5) (step (step x) 2) (step (step x) 3) (step (step x) 4) (step (step x) 5) (k0_pay64 (q 0) (rn (x 0)) (rn (x 1)) (rn (x 2)) (rn (x 3)) (rn (x 4)) (rn (x 5)) (psum3 (rns x))) (k0_pay65 (rn (x 0)) (rn (x 1)) (rn (x 2)) (rn (x 3)) (rn (x 4)) (rn (x 5)) (psum3 (rns x)))) (k0_pay67 (q 0) (q 1) (q 2) (q 3) (q 4) (q 5) (step (step x) 0) (step (step x) 1) (step (step x) 2) (step (step x) 3) (step (step x) 4) (step (step x) 5)) (k0_pay70 (q 5) (step (step x) 5) (k0_pay68 (q 0) (q 1) (q 2) (q 3) (step (step x) 0) (step (step x) 1) (step (step x) 2) (step (step x) 3)) (k0_pay69 (q 4) (step (step x) 4))) (k0_pay71 (q 0) (q 1) (q 2) (q 3) (q 4) (q 5) (step (step x) 0) (step (step x) 1) (step (step x) 2) (step (step x) 3) (step (step x) 4) (step (step x) 5)) (k0_pay72 (q 0) (q 1) (q 2) (q 3) (q 4) (q 5) (step (step x) 0) (step (step x) 1) (step (step x) 2) (step (step x) 3) (step (step x) 4) (step (step x) 5)) (k0_pay73 (q 0) (q 1) (step (step x) 0) (step (step x) 1)) (k0_pay74 (step (step x) 2)) =
      mix (step (step x)) q := rfl

/-- The block that a sample stores, from what the last cut kept. -/
theorem mixed1 (x : Rows F) (q : Fin 6 → FVec F S8x1024 .f32) :
    k0_pay138 (q 0) (q 1) (q 2) (q 3) (q 4) (q 5) (step x 0) (step x 1) (step x 2) (step x 3) (step x 4) (step x 5) (k0_pay130 (q 0) (q 1) (q 2) (q 3) (q 4) (q 5) (x 4) (x 5) (rn (x 0)) (rn (x 1)) (rn (x 2)) (rn (x 3))) (k0_pay133 (q 4) (q 5) (step x 4) (step x 5) (k0_pay131 (q 0) (q 1) (q 2) (x 4) (x 5) (rn (x 0)) (rn (x 1)) (rn (x 2)) (rn (x 3))) (k0_pay132 (q 3) (x 4) (x 5) (rn (x 0)) (rn (x 1)) (rn (x 2)) (rn (x 3)))) (k0_pay134 (q 0) (q 1) (q 2) (q 3) (q 4) (q 5) (step x 0) (step x 1) (step x 2) (step x 3) (step x 4) (step x 5)) (k0_pay135 (q 0) (q 1) (q 2) (q 3) (q 4) (q 5) (step x 0) (step x 1) (step x 2) (step x 3) (step x 4) (step x 5)) (k0_pay136 (q 0) (step x 0)) (k0_pay137 (step x 1)) =
      mix (step x) q := rfl

/-- The block that a sample stores, from what the last cut kept. -/
theorem mixed2 (x : Rows F) (q : Fin 6 → FVec F S8x1024 .f32) :
    k0_pay199 (q 4) (q 5) (step (step x) 4) (step (step x) 5) (k0_pay192 (q 3) (q 4) (q 5) (step (step x) 3) (step (step x) 4) (step (step x) 5) (k0_pay190 (q 0) (q 1) (rn (x 0)) (rn (x 1)) (rn (x 2)) (rn (x 3)) (rn (x 4)) (rn (x 5)) (rcs (rns x))) (k0_pay191 (q 2) (rn (x 0)) (rn (x 1)) (rn (x 2)) (rn (x 3)) (rn (x 4)) (rn (x 5)) (rcs (rns x)))) (k0_pay193 (q 0) (q 1) (q 2) (q 3) (q 4) (q 5) (step (step x) 0) (step (step x) 1) (step (step x) 2) (step (step x) 3) (step (step x) 4) (step (step x) 5)) (k0_pay194 (q 0) (q 1) (q 2) (q 3) (q 4) (q 5) (step (step x) 0) (step (step x) 1) (step (step x) 2) (step (step x) 3) (step (step x) 4) (step (step x) 5)) (k0_pay196 (q 0) (q 1) (q 2) (q 3) (q 4) (q 5) (step (step x) 1) (step (step x) 2) (step (step x) 3) (step (step x) 4) (step (step x) 5) (k0_pay195 (step (step x) 0))) (k0_pay197 (q 0) (q 1) (q 2) (q 3) (q 4) (q 5) (step (step x) 0) (step (step x) 1) (step (step x) 2) (step (step x) 3) (step (step x) 4) (step (step x) 5)) (k0_pay198 (q 0) (q 1) (q 2) (q 3) (step (step x) 0) (step (step x) 1) (step (step x) 2) (step (step x) 3)) =
      mix (step (step x)) q := rfl

/-- The block that a sample stores, from what the last cut kept. -/
theorem mixed3 (x : Rows F) (q : Fin 6 → FVec F S8x1024 .f32) :
    k0_pay259 (q 0) (q 1) (q 2) (q 3) (q 4) (q 5) (step x 0) (step x 1) (step x 2) (step x 3) (step x 4) (step x 5) (k0_pay252 (q 0) (q 1) (q 2) (q 3) (q 4) (q 5) (x 5) (rn (x 0)) (rn (x 1)) (rn (x 2)) (rn (x 3)) (rn (x 4)) (rs (x 5))) (k0_pay255 (q 5) (k0_pay253 (q 0) (q 1) (q 2) (q 3) (q 4) (x 5) (rn (x 0)) (rn (x 1)) (rn (x 2)) (rn (x 3)) (rn (x 4)) (rs (x 5))) (k0_pay254 (x 5) (rn (x 0)) (rn (x 1)) (rn (x 2)) (rn (x 3)) (rn (x 4)) (rs (x 5)))) (k0_pay256 (q 0) (q 1) (q 2) (q 3) (q 4) (q 5) (step x 0) (step x 1) (step x 2) (step x 3) (step x 4) (step x 5)) (k0_pay257 (q 0) (q 1) (q 2) (q 3) (q 4) (q 5) (step x 0) (step x 1) (step x 2) (step x 3) (step x 4) (step x 5)) (k0_pay258 (q 0) (q 1) (q 2) (step x 0) (step x 1) (step x 2)) =
      mix (step x) q := rfl

/-- The block that a sample stores, from what the last cut kept. -/
theorem mixed4 (x : Rows F) (q : Fin 6 → FVec F S8x1024 .f32) :
    k0_pay1 (q 5) (k0_pay319 (q 4) (q 5) (step x 5) (k0_pay317 (q 0) (q 1) (q 2) (q 3) (x 0) (x 1) (x 2) (x 3) (x 4) (x 5)) (k0_pay318 (x 0) (x 1) (x 2) (x 3) (x 4) (x 5))) (k0_pay320 (q 0) (q 1) (q 2) (q 3) (q 4) (q 5) (step x 0) (step x 1) (step x 2) (step x 3) (step x 4) (step x 5)) (k0_pay321 (q 0) (q 1) (q 2) (q 3) (q 4) (q 5) (step x 0) (step x 1) (step x 2) (step x 3) (step x 4) (step x 5)) (k0_pay323 (q 2) (q 3) (q 4) (q 5) (step x 2) (step x 3) (step x 4) (step x 5) (k0_pay322 (q 0) (q 1) (step x 0) (step x 1))) (k0_pay324 (q 0) (q 1) (q 2) (q 3) (q 4) (q 5) (step x 0) (step x 1) (step x 2) (step x 3) (step x 4) (step x 5)) (k0_pay325 (q 0) (q 1) (q 2) (q 3) (q 4) (step x 0) (step x 1) (step x 2) (step x 3) (step x 4)) (k0_pay326 (step x 5)) =
      mix (step x) q := rfl

end Cert.KernelIdeal.Sinkhorn

end
-- ==== Proof.Balance.lean ====
/- The mathematics: balancing a positive 6 × 6 matrix by dividing, and balancing its logarithm by subtracting, give the
   same matrix. -/
module

public import Idealize.ShloMosaic.Lib.Pointwise

@[expose] public section

set_option maxRecDepth 16384

noncomputable section

namespace Cert.Balance

open Idealize.ShloMosaic

/-! ## The two ways to balance, over the extended reals -/

/-- A 6 × 6 matrix of extended reals. -/
abbrev Mat := Fin 6 → Fin 6 → EReal

/-- Every row divided by its sum. -/
def rowDiv (A : Mat) : Mat := fun r i => Ideal.div (A r i) (∑ k : Fin 6, A r k)

/-- Every column multiplied by one over its sum. -/
def colDiv (A : Mat) : Mat := fun r i => A r i * Ideal.div 1 (∑ k : Fin 6, A k i)

/-- What the log-sum-exp is shifted by: the maximum, or 0 where that is infinite. -/
def shift (v : Fin 6 → EReal) : EReal :=
  if max (Finset.univ.fold max ⊥ v) (-(Finset.univ.fold max ⊥ v)) < ⊤ then Finset.univ.fold max ⊥ v else 0

/-- The logarithm of the sum of exponentials, shifted. -/
def lse (v : Fin 6 → EReal) : EReal := Ideal.log (∑ k : Fin 6, Ideal.exp (v k - shift v)) + shift v

/-- Every row less its log-sum-exp. -/
def rowSub (L : Mat) : Mat := fun r i => L r i - lse fun k => L r k

/-- Every column less its log-sum-exp. -/
def colSub (L : Mat) : Mat := fun r i => L r i - lse fun k => L k i

/-! ## On positive reals they agree -/

/-- `A` holds positive reals and `L` their logarithms. -/
def Logs (A L : Mat) : Prop := ∀ r i, ∃ x : ℝ, 0 < x ∧ A r i = (x : EReal) ∧ L r i = (Real.log x : EReal)

theorem exp_coe (x : ℝ) : Ideal.exp (x : EReal) = (Real.exp x : EReal) := rfl

theorem log_coe {x : ℝ} (h : 0 < x) : Ideal.log (x : EReal) = (Real.log x : EReal) := if_neg (not_le.2 h)

theorem sum_coe (f : Fin 6 → ℝ) : (∑ k : Fin 6, (f k : EReal)) = ((∑ k : Fin 6, f k : ℝ) : EReal) := by
  simp only [Fin.sum_univ_six, EReal.coe_add]

theorem coe_max (x y : ℝ) : ((max x y : ℝ) : EReal) = max (x : EReal) (y : EReal) :=
  EReal.coe_strictMono.monotone.map_max

/-- The maximum of six reals is a real, so that the shift is one. -/
theorem shift_coe (v : Fin 6 → ℝ) : ∃ m : ℝ, shift (fun k => (v k : EReal)) = (m : EReal) := by
  obtain ⟨m, hm⟩ : ∃ m : ℝ, Finset.univ.fold max ⊥ (fun k => (v k : EReal)) = (m : EReal) := by
    have h : ∀ s : Finset (Fin 6), s.Nonempty → ∃ m : ℝ, s.fold max ⊥ (fun k => (v k : EReal)) = (m : EReal) := by
      intro s hs
      induction hs using Finset.Nonempty.cons_induction with
      | singleton a => exact ⟨v a, by simp⟩
      | cons a s ha hs ih =>
        obtain ⟨m, hm⟩ := ih
        exact ⟨max (v a) m, by rw [Finset.fold_cons, hm, coe_max]⟩
    exact h _ Finset.univ_nonempty
  refine ⟨m, ?_⟩
  unfold shift
  rw [hm, if_pos]
  rw [← EReal.coe_neg, ← coe_max]
  exact EReal.coe_lt_top _

/-- The log-sum-exp of logarithms is the logarithm of the sum. -/
theorem lse_log (f : Fin 6 → ℝ) (hf : ∀ k, 0 < f k) :
    lse (fun k => (Real.log (f k) : EReal)) = (Real.log (∑ k : Fin 6, f k) : EReal) := by
  obtain ⟨m, hm⟩ := shift_coe fun k => Real.log (f k)
  have hpos : 0 < ∑ k : Fin 6, f k := Finset.sum_pos (fun k _ => hf k) Finset.univ_nonempty
  unfold lse
  rw [hm]
  have he : ∀ k, Ideal.exp ((Real.log (f k) : EReal) - (m : EReal)) = ((f k * Real.exp (-m) : ℝ) : EReal) := by
    intro k
    rw [← EReal.coe_sub, exp_coe, sub_eq_add_neg, Real.exp_add, Real.exp_log (hf k)]
  simp only [he]
  rw [sum_coe, ← Finset.sum_mul, log_coe (mul_pos hpos (Real.exp_pos _)), Real.log_mul hpos.ne' (Real.exp_pos _).ne',
    Real.log_exp, ← EReal.coe_add, neg_add_cancel_right]

/-- Division of reals by a positive one. -/
theorem div_coe {x y : ℝ} (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- Rows divided by their sums, against rows less their log-sum-exp. -/
theorem Logs.row {A L : Mat} (h : Logs A L) : Logs (rowDiv A) (rowSub L) := by
  choose f hf hA hL using h
  intro r i
  have hs : 0 < ∑ k : Fin 6, f r k := Finset.sum_pos (fun k _ => hf r k) Finset.univ_nonempty
  refine ⟨f r i / ∑ k : Fin 6, f r k, div_pos (hf r i) hs, ?_, ?_⟩
  · simp only [rowDiv, hA]
    rw [sum_coe, div_coe hs]
  · simp only [rowSub, hL]
    rw [lse_log _ (hf r), Real.log_div (hf r i).ne' hs.ne', EReal.coe_sub]

/-- Columns likewise. -/
theorem Logs.col {A L : Mat} (h : Logs A L) : Logs (colDiv A) (colSub L) := by
  choose f hf hA hL using h
  intro r i
  have hs : 0 < ∑ k : Fin 6, f k i := Finset.sum_pos (fun k _ => hf k i) Finset.univ_nonempty
  refine ⟨f r i / ∑ k : Fin 6, f k i, div_pos (hf r i) hs, ?_, ?_⟩
  · simp only [colDiv, hA]
    rw [sum_coe (fun k => f k i), ← EReal.coe_one, div_coe hs, ← EReal.coe_mul, mul_one_div]
  · simp only [colSub, hL]
    rw [lse_log (fun k => f k i) (fun k => hf k i), Real.log_div (hf r i).ne' hs.ne', EReal.coe_sub]

/-- `n` iterations of both. -/
theorem Logs.iterate {A L : Mat} (h : Logs A L) (n : ℕ) :
    Logs ((fun B => colDiv (rowDiv B))^[n] A) ((fun B => colSub (rowSub B))^[n] L) := by
  induction n generalizing A L with
  | zero => exact h
  | succ n ih => exact ih h.row.col

/-- The exponential of the logarithm. -/
theorem Logs.exp {A L : Mat} (h : Logs A L) (r i : Fin 6) : Ideal.exp (L r i) = A r i := by
  obtain ⟨x, hx, hA, hL⟩ := h r i
  rw [hA, hL, exp_coe, Real.exp_log hx]

/-! ## What both start from -/

/-- The small constant of both programs. -/
abbrev eps : EReal := Ideal.ofBits .f32 0x1E3CE508#32

theorem eps_pos : ∃ e : ℝ, 0 < e ∧ eps = (e : EReal) := by
  refine ⟨_, ?_, by simp [eps, Ideal.ofBits, Ideal.ieee, -EReal.coe_mul]; rfl⟩
  positivity

/-- A finite score and a noise value in [0, 1]: the kernel's quotient is a positive real, and the reference's sum its
    logarithm. -/
theorem start {s u : EReal} (hs : ∃ x : ℝ, s = (x : EReal)) (h0 : 0 ≤ u) (h1 : u ≤ 1) :
    ∃ x : ℝ, 0 < x ∧ Ideal.div (Ideal.exp s) (eps - Ideal.log (u + eps)) = (x : EReal)
      ∧ Ideal.div (s + -(Ideal.log (eps - Ideal.log (u + eps))) * 1) 1 = (Real.log x : EReal) := by
  obtain ⟨x, rfl⟩ := hs
  obtain ⟨e, he, hE⟩ := eps_pos
  obtain ⟨y, rfl⟩ : ∃ y : ℝ, u = (y : EReal) :=
    ⟨u.toReal, (EReal.coe_toReal (fun h => by rw [h] at h1; exact absurd h1 (by decide)) (fun h => by rw [h] at h0; exact absurd h0 (by decide))).symm⟩
  have hy0 : 0 ≤ y := by exact_mod_cast h0
  have hy1 : y ≤ 1 := by exact_mod_cast h1
  have hye : 0 < y + e := by linarith
  have hd : 0 < e - Real.log (y + e) := by
    have h2 : Real.log (y + e) < y + e - 1 ∨ y + e = 1 := by
      by_cases h : y + e = 1
      · exact .inr h
      · exact .inl (Real.log_lt_sub_one_of_pos hye h)
    rcases h2 with h2 | h2
    · linarith
    · rw [h2, Real.log_one]; linarith
  rw [hE, ← EReal.coe_add, log_coe hye, ← EReal.coe_sub, log_coe hd, exp_coe, div_coe hd]
  refine ⟨_, div_pos (Real.exp_pos x) hd, rfl, ?_⟩
  rw [mul_one, ← EReal.coe_neg, ← EReal.coe_add, ← EReal.coe_one, div_coe one_pos, div_one,
    Real.log_div (Real.exp_pos x).ne' hd.ne', Real.log_exp, ← sub_eq_add_neg x]

/-- The matrix that the kernel starts from: exponentials of scores over shifted double logarithms of noise. -/
def quotients (s u : Mat) : Mat := fun r i => Ideal.div (Ideal.exp (s r i)) (eps - Ideal.log (u r i + eps))

/-- The matrix that the reference starts from: scores plus the noise, over the temperature 1. -/
def sums (s u : Mat) : Mat := fun r i => Ideal.div (s r i + -(Ideal.log (eps - Ideal.log (u r i + eps))) * 1) 1

/-- The balanced matrix, by dividing. -/
def divided (A : Mat) : Mat := (fun B => colDiv (rowDiv B))^[5] A

/-- The logarithm of the balanced matrix, by subtracting. -/
def subtracted (L : Mat) : Mat := (fun B => colSub (rowSub B))^[5] L

/-- Five iterations of either kind give the same matrix. -/
theorem balanced_eq {s u : Mat} (hs : ∀ r i, ∃ x : ℝ, s r i = (x : EReal)) (h0 : ∀ r i, 0 ≤ u r i) (h1 : ∀ r i, u r i ≤ 1)
    (r i : Fin 6) : Ideal.exp (subtracted (sums s u) r i) = divided (quotients s u) r i :=
  Logs.exp (Logs.iterate (fun r i => start (hs r i) (h0 r i) (h1 r i)) 5) r i

/-! ## The scores -/

/-- A sum of products of reals plus a real is a real. -/
theorem score_coe {f g : Fin 16 → EReal} {b : EReal} (hf : ∀ k, ∃ x : ℝ, f k = (x : EReal)) (hg : ∀ k, ∃ x : ℝ, g k = (x : EReal))
    (hb : ∃ x : ℝ, b = (x : EReal)) : ∃ x : ℝ, (∑ k : Fin 16, f k * g k) + b = (x : EReal) := by
  choose f' hf using hf
  choose g' hg using hg
  obtain ⟨b', rfl⟩ := hb
  refine ⟨(∑ k : Fin 16, f' k * g' k) + b', ?_⟩
  have h : ∀ t : Finset (Fin 16), (∑ k ∈ t, f k * g k) = ((∑ k ∈ t, f' k * g' k : ℝ) : EReal) := by
    intro t
    induction t using Finset.cons_induction with
    | empty => simp
    | cons a t ha ih => rw [Finset.sum_cons, Finset.sum_cons, ih, hf, hg, ← EReal.coe_mul, ← EReal.coe_add]
  rw [h, ← EReal.coe_add]

/-- What lies strictly between the infinities is a real. -/
theorem coe_of_abs {a : EReal} (h : max a (-a) < ⊤) : ∃ x : ℝ, a = (x : EReal) := by
  refine ⟨a.toReal, (EReal.coe_toReal (fun e => ?_) fun e => ?_).symm⟩ <;> subst e <;> simp at h

/-! ## The stopping probabilities -/

/-- The softmax, shifted by the maximum. -/
def softmax (v : Fin 6 → EReal) (k : Fin 6) : EReal :=
  Ideal.div (Ideal.exp (v k - Finset.univ.fold max ⊥ v)) (∑ j : Fin 6, Ideal.exp (v j - Finset.univ.fold max ⊥ v))

/-! ## Words -/

theorem top_word : Ideal.ofBits .f32 0x7F800000#32 = (⊤ : EReal) := by simp [Ideal.ofBits, Ideal.ieee]

theorem bot_word : Ideal.ofBits .f32 0xFF800000#32 = (⊥ : EReal) := by simp [Ideal.ofBits, Ideal.ieee]

theorem absf_eq (a : EReal) : FloatOps.absf (F := Ideal) (φ := .f32) a = max a (-a) := rfl

end Cert.Balance

end
-- ==== Proof.Block.lean ====
/- What the kernel stores, as the balanced matrices of the five samples against the sequence. -/
module

public import proofs.«01_k».proof.Proof.Gen.KernelIdeal.Frame
public import proofs.«01_k».proof.Proof.Stages
public import proofs.«01_k».proof.Proof.Balance

@[expose] public section

set_option maxRecDepth 16384

noncomputable section

namespace Cert.KernelIdeal.Sinkhorn

open Idealize.ShloMosaic Idealize.SL.Sem
open Cert.KernelIdeal Cert.KernelIdeal.Gen

variable {F : FTy → Type} [FloatOps F]

/-- The six elements of the sequence, one lane per column. -/
def seqRows (v : Vec F S1024x48 .f32) : Fin 6 → FVec F S8x1024 .f32 :=
  ![k0_pay6 v, k0_pay7 v, k0_pay8 v, k0_pay9 v, k0_pay10 v, k0_pay11 v]

/-- The block one sample stores, from the scores, the sample's noise and the sequence. -/
def sample (a : FVec F S36x1024 .f32) (v : Vec F S1024x48 .f32) (u : Vec F S1x1024x36 .f32) : Vec F S1x1024x48 .f32 :=
  mix (step (step (step (step (step (init a u)))))) (seqRows v)

variable (x0 : Vec F S1024x16 .f32) (x1 : Vec F S1024x48 .f32) (x2 : Vec F S5x1024x36 .f32) (x3 : Vec F S36x16 .f32)
  (x4 : Vec F S36x1 .f32) (x5 : Vec F S6x16 .f32) (x6 : Vec F S6x1 .f32)

/-- The block of the first result. -/
theorem out0_7_eq : out0_7 x0 x1 x2 x3 x4 x5 x6 =
    (View.canon [⟨r0_16, sample (k0_pay3 (View.ld x0 r0_0) (View.ld x3 r0_1) (View.ld x4 r0_2)) (View.ld x1 r0_6) (View.ld x2 r0_15)⟩,
      ⟨r0_14, sample (k0_pay3 (View.ld x0 r0_0) (View.ld x3 r0_1) (View.ld x4 r0_2)) (View.ld x1 r0_6) (View.ld x2 r0_13)⟩,
      ⟨r0_12, sample (k0_pay3 (View.ld x0 r0_0) (View.ld x3 r0_1) (View.ld x4 r0_2)) (View.ld x1 r0_6) (View.ld x2 r0_11)⟩,
      ⟨r0_10, sample (k0_pay3 (View.ld x0 r0_0) (View.ld x3 r0_1) (View.ld x4 r0_2)) (View.ld x1 r0_6) (View.ld x2 r0_9)⟩,
      ⟨r0_8, sample (k0_pay3 (View.ld x0 r0_0) (View.ld x3 r0_1) (View.ld x4 r0_2)) (View.ld x1 r0_6) (View.ld x2 r0_7)⟩] : Vec F S5x1024x48 .f32) := by
  have h0 : k0_pay328 x0 x1 x2 x3 x4 x5 x6 = seqRows (View.ld x1 r0_6) 0 := rfl
  have h1 : k0_pay329 x0 x1 x2 x3 x4 x5 x6 = seqRows (View.ld x1 r0_6) 1 := rfl
  have h2 : k0_pay330 x0 x1 x2 x3 x4 x5 x6 = seqRows (View.ld x1 r0_6) 2 := rfl
  have h3 : k0_pay331 x0 x1 x2 x3 x4 x5 x6 = seqRows (View.ld x1 r0_6) 3 := rfl
  have h4 : k0_pay332 x0 x1 x2 x3 x4 x5 x6 = seqRows (View.ld x1 r0_6) 4 := rfl
  have h5 : k0_pay333 x0 x1 x2 x3 x4 x5 x6 = seqRows (View.ld x1 r0_6) 5 := rfl
  have ha : k0_pay327 x0 x1 x2 x3 x4 x5 x6 = k0_pay3 (View.ld x0 r0_0) (View.ld x3 r0_1) (View.ld x4 r0_2) := rfl
  simp only [out0_7, h0, h1, h2, h3, h4, h5, k0_pay334, k0_pay335, k0_pay336, k0_pay337, k0_pay338, k0_pay339,
    k0_pay340, k0_pay341, k0_pay342, k0_pay343, k0_pay344, k0_pay345, k0_pay346, k0_pay347, k0_pay348, k0_pay349,
    k0_pay350, k0_pay351, k0_pay352, k0_pay353, k0_pay354, k0_pay355, k0_pay356, k0_pay357, k0_pay358, k0_pay359,
    k0_pay360, k0_pay361, k0_pay362, k0_pay363, k0_pay364, k0_pay365, k0_pay366, k0_pay367, k0_pay368, k0_pay369,
    k0_pay370, k0_pay371, k0_pay372, k0_pay373, k0_pay374, k0_pay375, k0_pay376, k0_pay377, k0_pay378, k0_pay379,
    k0_pay380, k0_pay381, k0_pay382, k0_pay383, k0_pay384, k0_pay385, k0_pay386, k0_pay387, k0_pay388, k0_pay389,
    k0_pay390, k0_pay391, k0_pay392, k0_pay393, k0_pay394, k0_pay395, k0_pay396, k0_pay397, k0_pay398, k0_pay399,
    k0_pay400, k0_pay401, k0_pay402, k0_pay403, k0_pay404, k0_pay405, k0_pay406, k0_pay407, k0_pay408, k0_pay409,
    k0_pay410, k0_pay411, k0_pay412, k0_pay413, k0_pay414, k0_pay415, k0_pay416, k0_pay417, k0_pay418, k0_pay419,
    k0_pay420, k0_pay421, k0_pay422, k0_pay423, k0_pay424, k0_pay425, k0_pay426, k0_pay427, k0_pay428, k0_pay429,
    k0_pay430, k0_pay431, k0_pay432, k0_pay433, k0_pay434, k0_pay435, k0_pay436, k0_pay437, k0_pay438, k0_pay439,
    k0_pay440, k0_pay441, k0_pay442, k0_pay443, k0_pay444, k0_pay445, k0_pay446, k0_pay447, k0_pay448, k0_pay449,
    k0_pay450, k0_pay451, k0_pay452, k0_pay453, k0_pay454, k0_pay455, k0_pay456, k0_pay457, k0_pay458, k0_pay459,
    k0_pay460, k0_pay461, k0_pay462, k0_pay463, k0_pay464, k0_pay465, k0_pay466, k0_pay467, k0_pay468, k0_pay469,
    k0_pay470, k0_pay471, k0_pay472, k0_pay473, k0_pay474, k0_pay475, k0_pay476, k0_pay477, k0_pay478, k0_pay479, ha,
    stage0_1, stage0_2, stage0_3, stage0_4, stage1_1, stage1_2, stage1_3, stage1_4, stage1_5, stage2_1, stage2_2,
    stage2_3, stage2_4, stage2_5, stage3_1, stage3_2, stage3_3, stage3_4, stage3_5, stage4_1, stage4_2, stage4_3,
    stage4_4, stage4_5, mixed0, mixed1, mixed2, mixed3, mixed4]
  rfl

end Cert.KernelIdeal.Sinkhorn

end
-- ==== Proof.BlockValue.lean ====
/- What the kernel stores, read at an index over the extended reals. -/
module

public import proofs.«01_k».proof.Proof.Block

@[expose] public section

set_option maxRecDepth 16384

noncomputable section

namespace Cert.KernelIdeal.Sinkhorn

open Idealize.ShloMosaic Idealize.SL.Sem
open Cert.KernelIdeal Cert.KernelIdeal.Gen
open Cert.Balance (Mat rowDiv colDiv divided quotients softmax bot_word)

/-- Lane `l`'s matrix. -/
def lane (x : Rows Ideal) (l : Fin 1024) : Mat := fun r i => x r (ix2 i l)

theorem rn_at (x : FVec Ideal S6x1024 .f32) (i : Fin 6) (l : Fin 1024) :
    rn x (ix2 i l) = Ideal.div (x (ix2 i l)) (∑ k : Fin 6, x (ix2 k l)) := by
  pointwise [rn, rb, rs]

theorem step_lane (x : Rows Ideal) (l : Fin 1024) : lane (step x) l = colDiv (rowDiv (lane x l)) := by
  funext r i
  have hrn : ∀ r i, rns x r (ix2 i l) = rowDiv (lane x l) r i := fun r i => rn_at (x r) i l
  show mulf (rns x r) (rcs (rns x)) (ix2 i l) = _
  pointwise [rcs, psum4, psum3]
  simp only [hrn, colDiv, Fin.sum_univ_six]

theorem init_lane (a : FVec Ideal S36x1024 .f32) (u : Vec Ideal S1x1024x36 .f32) (l : Fin 1024) :
    lane (init a u) l = fun r i => Ideal.div (a (ix2 ⟨6 * r.val + i.val, by omega⟩ l))
      (Balance.eps - Ideal.log (u (ix3 0 l ⟨6 * r.val + i.val, by omega⟩) + Balance.eps)) := by
  funext r i
  unfold lane
  fin_cases r <;> pointwise [init, k0_pay12] <;> simp

theorem seqRows_at (v : Vec Ideal S1024x48 .f32) (j : Fin 6) (d : Fin 8) (l : Fin 1024) :
    seqRows v j (ix2 d l) = v (ix2 l ⟨8 * j.val + d.val, by omega⟩) := by
  fin_cases j <;> pointwise [seqRows, k0_pay6, k0_pay7, k0_pay8, k0_pay9, k0_pay10, k0_pay11, k0_pay5] <;> simp

theorem mixRow_at (x : Rows Ideal) (q : Fin 6 → FVec Ideal S8x1024 .f32) (i : Fin 6) (d : Fin 8) (l : Fin 1024) :
    mixRow x q i (ix2 d l) = ∑ j : Fin 6, lane x l j i * q j (ix2 d l) := by
  have hc : ∀ y : FVec Ideal S6x1024 .f32, col i y (ix2 d l) = y (ix2 i l) := by
    intro y
    fin_cases i <;> pointwise [col]
  pointwise [mixRow]
  simp only [hc, lane, Fin.sum_univ_six]

theorem mix_at (x : Rows Ideal) (q : Fin 6 → FVec Ideal S8x1024 .f32) (i : Fin 6) (d : Fin 8) (l : Fin 1024) :
    mix x q (ix3 0 l ⟨8 * i.val + d.val, by omega⟩) = ∑ j : Fin 6, lane x l j i * q j (ix2 d l) := by
  rw [← mixRow_at]
  have hd : ∀ (k : ℕ) (h : k < 8), k = d.val → ix2 (⟨k, h⟩ : Fin 8) l = ix2 d l := fun k h e => by subst e; rfl
  fin_cases i <;> pointwise [mix] <;> split_ifs <;> first | omega | exact congrArg _ (hd _ _ (by omega))

theorem score_at (x0 : Vec Ideal S1024x16 .f32) (x3 : Vec Ideal S36x16 .f32) (x4 : Vec Ideal S36x1 .f32) (n : Fin 36) (l : Fin 1024) :
    k0_pay3 x0 x3 x4 (ix2 n l) = Ideal.exp ((∑ k : Fin 16, x0 (ix2 l k) * x3 (ix2 n k)) + x4 (ix2 n 0)) := by
  pointwise [k0_pay3, k0_pay2]
  simp only [mul_comm]

theorem stop_at (x0 : Vec Ideal S1024x16 .f32) (x5 : Vec Ideal S6x16 .f32) (x6 : Vec Ideal S6x1 .f32) (n : Fin 6) (l : Fin 1024) :
    k0_pay4 x0 x5 x6 (ix2 n l) = softmax (fun i => (∑ k : Fin 16, x0 (ix2 l k) * x5 (ix2 i k)) + x6 (ix2 i 0)) n := by
  pointwise [k0_pay4, k0_pay2]
  simp only [mul_comm, bot_word, softmax]

/-- What a sample stores, at an index. -/
theorem sample_at (x0 : Vec Ideal S1024x16 .f32) (x3 : Vec Ideal S36x16 .f32) (x4 : Vec Ideal S36x1 .f32) (v : Vec Ideal S1024x48 .f32)
    (u : Vec Ideal S1x1024x36 .f32) (i : Fin 6) (d : Fin 8) (l : Fin 1024) :
    sample (k0_pay3 x0 x3 x4) v u (ix3 0 l ⟨8 * i.val + d.val, by omega⟩)
      = ∑ j : Fin 6, divided (quotients
          (fun r i => (∑ k : Fin 16, x0 (ix2 l k) * x3 (ix2 ⟨6 * r.val + i.val, by omega⟩ k)) + x4 (ix2 ⟨6 * r.val + i.val, by omega⟩ 0))
          (fun r i => u (ix3 0 l ⟨6 * r.val + i.val, by omega⟩))) j i * v (ix2 l ⟨8 * j.val + d.val, by omega⟩) := by
  unfold sample
  rw [mix_at]
  refine Finset.sum_congr rfl fun j _ => ?_
  rw [step_lane, step_lane, step_lane, step_lane, step_lane, init_lane, seqRows_at]
  simp only [score_at]
  rfl

end Cert.KernelIdeal.Sinkhorn

end
-- ==== Proof.Stored.lean ====
/- The two blocks that a grid point stores, at an index. -/
module

public import proofs.«01_k».proof.Proof.BlockValue
public import Idealize.ShloMosaic.Lib.Pipeline.ValueKit

@[expose] public section

set_option maxRecDepth 16384

noncomputable section

namespace Cert.KernelIdeal.Sinkhorn

open Idealize.ShloMosaic Idealize.SL.Sem
open Cert.KernelIdeal Cert.KernelIdeal.Gen
open Cert.Balance (Mat divided quotients softmax)

variable (x0 : Vec Ideal S1024x16 .f32) (x1 : Vec Ideal S1024x48 .f32) (x2 : Vec Ideal S5x1024x36 .f32) (x3 : Vec Ideal S36x16 .f32)
  (x4 : Vec Ideal S36x1 .f32) (x5 : Vec Ideal S6x16 .f32) (x6 : Vec Ideal S6x1 .f32)

/-- Position `8 i + d` of a row of 48. -/
abbrev at8 (i : Fin 6) (d : Fin 8) : Fin 48 := ⟨8 * i.val + d.val, by omega⟩

/-- Position `6 r + i` of a row of 36. -/
abbrev at6 (r i : Fin 6) : Fin 36 := ⟨6 * r.val + i.val, by omega⟩

/-- A block taken from its origin. -/
theorem whole2 : (![0, 0] : Fin 2 → Nat) = fun _ => 0 := funext fun a => by fin_cases a <;> rfl

/-- One sample's stored block at one of its indices, its noise given as that of sample `s`. -/
theorem sample_tile (s : Fin 5) (l : Fin 1024) (i : Fin 6) (d : Fin 8) (u : Vec Ideal S1x1024x36 .f32)
    (hu : ∀ n, u (ix3 0 l n) = x2 (ix3 s l n)) (x : S1x1024x48.Idx) (hx1 : l.val = x 1) (hx2 : 8 * i.val + d.val = x 2) :
    sample (k0_pay3 x0 x3 x4) x1 u x
      = ∑ j : Fin 6, divided (quotients (fun r i => (∑ k : Fin 16, x0 (ix2 l k) * x3 (ix2 (at6 r i) k)) + x4 (ix2 (at6 r i) 0))
          (fun r i => x2 (ix3 s l (at6 r i)))) j i * x1 (ix2 l (at8 j d)) := by
  obtain rfl : x = ix3 0 l (at8 i d) := by
    funext a
    fin_cases a
    · exact Subsingleton.elim (α := Fin 1) _ _
    · exact Fin.ext hx1.symm
    · exact Fin.ext hx2.symm
  rw [sample_at]
  simp only [hu]

/-- The block of the first result at an index. -/
theorem out7_at (s : Fin 5) (l : Fin 1024) (i : Fin 6) (d : Fin 8) :
    out0_7 x0 x1 x2 x3 x4 x5 x6 (ix3 s l (at8 i d))
      = ∑ j : Fin 6, divided (quotients (fun r i => (∑ k : Fin 16, x0 (ix2 l k) * x3 (ix2 (at6 r i) k)) + x4 (ix2 (at6 r i) 0))
          (fun r i => x2 (ix3 s l (at6 r i)))) j i * x1 (ix2 l (at8 j d)) := by
  rw [out0_7_eq, View.ld_unit_zero whole2, View.ld_unit_zero whole2, View.ld_unit_zero whole2, View.ld_unit_zero whole2]
  canon_tiles x h
  all_goals
    refine sample_tile x0 x1 x2 x3 x4 s l i d _ (fun n => ?_) x h1 h2
    replace h0 : s.val = _ := h0
    pointwise
    exact congrArg (fun t => x2 (ix3 t l n)) (Fin.ext (by rw [h0, Nat.lt_one_iff.1 x0_lt]; rfl))

/-- The block of the second result at an index. -/
theorem out8_at (n : Fin 6) (l : Fin 1024) :
    out0_8 x0 x1 x2 x3 x4 x5 x6 (ix2 n l)
      = softmax (fun i => (∑ k : Fin 16, x0 (ix2 l k) * x5 (ix2 i k)) + x6 (ix2 i 0)) n := by
  unfold out0_8
  rw [View.canon_unit_zero whole2, View.ld_unit_zero whole2, View.ld_unit_zero whole2, View.ld_unit_zero whole2]
  exact stop_at x0 x5 x6 n l

end Cert.KernelIdeal.Sinkhorn

end
-- ==== Proof.Arrays.lean ====
/- The kernel's two result arrays after the run, over its argument arrays. -/
module

public import proofs.«01_k».proof.Proof.Stored
public import Idealize.ShloMosaic.Lib.Claim

@[expose] public section

set_option maxRecDepth 16384

noncomputable section

namespace Cert.KernelIdeal.Sinkhorn

open Idealize.ShloMosaic Idealize.ShloMosaic.TcCoe Idealize.SL.Sem
open Idealize.ShloMosaic.Pipeline (Dat)
open Cert.KernelIdeal Cert.KernelIdeal.Gen
open Cert.Balance (Mat divided quotients softmax)

/-- The scores of the matrix of batch row `n`. -/
def scores (x : FVec Ideal S131072x16 .f32) (w : FVec Ideal S16x36 .f32) (b : FVec Ideal S36 .f32) (n : Fin 131072) : Mat := fun r i =>
  (∑ k : Fin 16, x (ix2 n k) * w (ix2 k (at6 r i))) + b (ix1 (at6 r i))

/-- The logits of batch row `n`. -/
def logits (x : FVec Ideal S131072x16 .f32) (w : FVec Ideal S16x6 .f32) (b : FVec Ideal S6 .f32) (n : Fin 131072) (i : Fin 6) : EReal :=
  (∑ k : Fin 16, x (ix2 n k) * w (ix2 k i)) + b (ix1 i)

/-- Row `n` of sample `s` among all samples' rows. -/
abbrev row (s : Fin 5) (n : Fin 131072) : Fin 655360 := ⟨s.val * 131072 + n.val, by omega⟩

/-- The first result, one entry. -/
def ordered (x : FVec Ideal S131072x16 .f32) (q : FVec Ideal S131072x6x8 .f32) (u : FVec Ideal S655360x6x6 .f32)
    (w : FVec Ideal S16x36 .f32) (b : FVec Ideal S36 .f32) (s : Fin 5) (n : Fin 131072) (i : Fin 6) (d : Fin 8) : EReal :=
  ∑ j : Fin 6, divided (quotients (scores x w b n) (fun r i => u (ix3 (row s n) r i))) j i * q (ix3 n j d)

variable (m : (ℓ : Loc nD τ sig) → Buf (Elt Ideal) ℓ) (c : Dev nD)

/-! ## What the region finds in its arrays -/

theorem seq_at (n : Fin 131072) (j : Fin 6) (d : Fin 8) : (V m c main_v1 : FVec Ideal S131072x48 .f32) (ix2 n (at8 j d))
    = (m ((c : Thread nD τ).loc main_arg1) : FVec Ideal S131072x6x8 .f32) (ix3 n j d) := by
  simp only [V, V0, List.flatten_cons, List.flatten_nil, List.append_nil]
  after_results
  pointwise
  exact congrArg₂ (fun a b => (m ((c : Thread nD τ).loc main_arg1) : FVec Ideal S131072x6x8 .f32) (ix3 n a b))
    (Fin.ext (by show (8 * j.val + d.val) / 8 = j.val; omega)) (Fin.ext (by show (8 * j.val + d.val) % 8 = d.val; omega))

theorem noise_at (s : Fin 5) (n : Fin 131072) (r i : Fin 6) : (V m c main_v0 : FVec Ideal S5x131072x36 .f32) (ix3 s n (at6 r i))
    = (m ((c : Thread nD τ).loc main_arg2) : FVec Ideal S655360x6x6 .f32) (ix3 (row s n) r i) := by
  simp only [V, V0, List.flatten_cons, List.flatten_nil, List.append_nil]
  after_results
  pointwise
  exact congrArg₂ (fun a b => (m ((c : Thread nD τ).loc main_arg2) : FVec Ideal S655360x6x6 .f32) (ix3 (row s n) a b))
    (Fin.ext (by show (6 * r.val + i.val) / 6 = r.val; omega)) (Fin.ext (by show (6 * r.val + i.val) % 6 = i.val; omega))

theorem weight_at (n : Fin 36) (k : Fin 16) : (V m c main_v2 : FVec Ideal S36x16 .f32) (ix2 n k)
    = (m ((c : Thread nD τ).loc main_arg3) : FVec Ideal S16x36 .f32) (ix2 k n) := by
  simp only [V, V0, List.flatten_cons, List.flatten_nil, List.append_nil]
  after_results
  pointwise

theorem bias_at (n : Fin 36) : (V m c main_v4 : FVec Ideal S36x1 .f32) (ix2 n 0)
    = (m ((c : Thread nD τ).loc main_arg4) : FVec Ideal S36 .f32) (ix1 n) := by
  simp only [V, V0, List.flatten_cons, List.flatten_nil, List.append_nil]
  after_results
  pointwise

theorem stopWeight_at (n : Fin 6) (k : Fin 16) : (V m c main_v3 : FVec Ideal S6x16 .f32) (ix2 n k)
    = (m ((c : Thread nD τ).loc main_arg5) : FVec Ideal S16x6 .f32) (ix2 k n) := by
  simp only [V, V0, List.flatten_cons, List.flatten_nil, List.append_nil]
  after_results
  pointwise

theorem stopBias_at (n : Fin 6) : (V m c main_v5 : FVec Ideal S6x1 .f32) (ix2 n 0)
    = (m ((c : Thread nD τ).loc main_arg6) : FVec Ideal S6 .f32) (ix1 n) := by
  simp only [V, V0, List.flatten_cons, List.flatten_nil, List.append_nil]
  after_results
  pointwise

/-! ## The blocks of a grid point -/

theorem idx : ∀ t : Fin cfg0.N, win0_0.index t = ![t.val, 0] ∧ win0_1.index t = ![t.val, 0] ∧ win0_2.index t = ![0, t.val, 0]
    ∧ win0_3.index t = ![0, 0] ∧ win0_4.index t = ![0, 0] ∧ win0_5.index t = ![0, 0] ∧ win0_6.index t = ![0, 0]
    ∧ win0_7.index t = ![0, t.val, 0] ∧ win0_8.index t = ![0, t.val] :=
  (by decide +kernel : ∀ t : Fin grid0.N, _)

variable (t : Fin cfg0.N) (l : Fin 1024)

/-- Lane `l` of grid point `t` in the batch. -/
abbrev at_ : Fin 131072 := ⟨t.val * 1024 + l.val, by have := lt_of_lt_of_eq t.isLt N_0; omega⟩

theorem blk0 (k : Fin 16) : (iblk m c 0 t : FVec Ideal S1024x16 .f32) (ix2 l k)
    = (m ((c : Thread nD τ).loc main_arg0) : FVec Ideal S131072x16 .f32) (ix2 (at_ t l) k) := by
  blk_point [iblk, V, idx t]

theorem blk1 (j : Fin 6) (d : Fin 8) : (iblk m c 1 t : FVec Ideal S1024x48 .f32) (ix2 l (at8 j d))
    = (m ((c : Thread nD τ).loc main_arg1) : FVec Ideal S131072x6x8 .f32) (ix3 (at_ t l) j d) := by
  rw [← seq_at m c]
  blk_ext [iblk, idx t]

theorem blk2 (s : Fin 5) (r i : Fin 6) : (iblk m c 2 t : FVec Ideal S5x1024x36 .f32) (ix3 s l (at6 r i))
    = (m ((c : Thread nD τ).loc main_arg2) : FVec Ideal S655360x6x6 .f32) (ix3 (row s (at_ t l)) r i) := by
  rw [← noise_at m c]
  blk_ext [iblk, idx t]

theorem blk3 (n : Fin 36) (k : Fin 16) : (iblk m c 3 t : FVec Ideal S36x16 .f32) (ix2 n k)
    = (m ((c : Thread nD τ).loc main_arg3) : FVec Ideal S16x36 .f32) (ix2 k n) := by
  rw [← weight_at m c]
  blk_ext [iblk, idx t]

theorem blk4 (n : Fin 36) : (iblk m c 4 t : FVec Ideal S36x1 .f32) (ix2 n 0)
    = (m ((c : Thread nD τ).loc main_arg4) : FVec Ideal S36 .f32) (ix1 n) := by
  rw [← bias_at m c]
  blk_ext [iblk, idx t]

theorem blk5 (n : Fin 6) (k : Fin 16) : (iblk m c 5 t : FVec Ideal S6x16 .f32) (ix2 n k)
    = (m ((c : Thread nD τ).loc main_arg5) : FVec Ideal S16x6 .f32) (ix2 k n) := by
  rw [← stopWeight_at m c]
  blk_ext [iblk, idx t]

theorem blk6 (n : Fin 6) : (iblk m c 6 t : FVec Ideal S6x1 .f32) (ix2 n 0)
    = (m ((c : Thread nD τ).loc main_arg6) : FVec Ideal S6 .f32) (ix1 n) := by
  rw [← stopBias_at m c]
  blk_ext [iblk, idx t]

/-! ## The two arrays the grid leaves -/

/-- The first array: entry `8 i + d` of lane `n` of sample `s`. -/
def first : FVec Ideal S5x131072x48 .f32 := fun j => ordered (m ((c : Thread nD τ).loc main_arg0)) (m ((c : Thread nD τ).loc main_arg1))
  (m ((c : Thread nD τ).loc main_arg2)) (m ((c : Thread nD τ).loc main_arg3)) (m ((c : Thread nD τ).loc main_arg4)) (j 0) (j 1)
  ⟨(j 2).val / 8, by have h : (j 2).val < 48 := (j 2).isLt; omega⟩ ⟨(j 2).val % 8, by omega⟩

/-- The second array: entry `k` of lane `n`. -/
def second : FVec Ideal S6x131072 .f32 := fun j => softmax (logits (m ((c : Thread nD τ).loc main_arg0)) (m ((c : Thread nD τ).loc main_arg5))
  (m ((c : Thread nD τ).loc main_arg6)) (j 1)) (j 0)

/-- The index `8 i + d` determines `i` and `d`. -/
theorem first_at (s : Fin 5) (n : Fin 131072) (i : Fin 6) (d : Fin 8) : first m c (ix3 s n (at8 i d))
    = ordered (m ((c : Thread nD τ).loc main_arg0)) (m ((c : Thread nD τ).loc main_arg1)) (m ((c : Thread nD τ).loc main_arg2))
        (m ((c : Thread nD τ).loc main_arg3)) (m ((c : Thread nD τ).loc main_arg4)) s n i d :=
  congrArg₂ (ordered (m ((c : Thread nD τ).loc main_arg0)) (m ((c : Thread nD τ).loc main_arg1)) (m ((c : Thread nD τ).loc main_arg2))
      (m ((c : Thread nD τ).loc main_arg3)) (m ((c : Thread nD τ).loc main_arg4)) s n)
    (Fin.ext (by show (8 * i.val + d.val) / 8 = i.val; omega)) (Fin.ext (by show (8 * i.val + d.val) % 8 = d.val; omega))

theorem stored7 (s : Fin 5) (i : Fin 6) (d : Fin 8) :
    out0_7 (iblk m c 0 t) (iblk m c 1 t) (iblk m c 2 t) (iblk m c 3 t) (iblk m c 4 t) (iblk m c 5 t) (iblk m c 6 t) (ix3 s l (at8 i d))
      = first m c (ix3 s (at_ t l) (at8 i d)) := by
  rw [first_at, out7_at]
  refine Finset.sum_congr rfl fun j _ => congrArg₂ (· * ·) (congrFun₂ (congrArg divided (congrArg₂ quotients ?_ ?_)) j i) (blk1 m c t l j d)
  · funext r i
    exact congrArg₂ (· + ·) (Finset.sum_congr rfl fun k _ => congrArg₂ (· * ·) (blk0 m c t l k) (blk3 m c t _ k)) (blk4 m c t _)
  · funext r i
    exact blk2 m c t l s r i

theorem stored8 (n : Fin 6) :
    out0_8 (iblk m c 0 t) (iblk m c 1 t) (iblk m c 2 t) (iblk m c 3 t) (iblk m c 4 t) (iblk m c 5 t) (iblk m c 6 t) (ix2 n l)
      = second m c (ix2 n (at_ t l)) := by
  rw [out8_at]
  refine congrFun (congrArg softmax (funext fun i => ?_)) n
  exact congrArg₂ (· + ·) (Finset.sum_congr rfl fun k _ => congrArg₂ (· * ·) (blk0 m c t l k) (blk5 m c t i k)) (blk6 m c t i)

/-- Every index below 48 is some `8 i + d`. -/
theorem at8_split (e : Fin 48) : e = at8 ⟨e.val / 8, by omega⟩ ⟨e.val % 8, by omega⟩ :=
  Fin.ext (by show e.val = 8 * (e.val / 8) + e.val % 8; omega)

theorem final7 : ((dats m 0 c).arrAt 7 (cfgs 0).N : FVec Ideal S5x131072x48 .f32) = first m c := by
  refine (dats m 0 c).arrAt_eq_of_covers 7 (first m c) (by decide +kernel) fun t _ y => ?_
  blk_simp
  rw [after0_7]
  obtain ⟨s, l, e, rfl⟩ : ∃ (s : Fin 5) (l : Fin 1024) (e : Fin 48), y = ix3 s l e := ⟨_, _, _, eq_ix3 (n0 := 5) (n1 := 1024) (n2 := 48) y⟩
  rw [at8_split e]
  refine (stored7 m c t l s _ _).trans ?_
  rw [← at8_split e]
  blk_ext [idx t]

theorem final8 : ((dats m 0 c).arrAt 8 (cfgs 0).N : FVec Ideal S6x131072 .f32) = second m c := by
  refine (dats m 0 c).arrAt_eq_of_covers 8 (second m c) (by decide +kernel) fun t _ y => ?_
  blk_simp
  rw [after0_8]
  obtain ⟨n, l, rfl⟩ : ∃ (n : Fin 6) (l : Fin 1024), y = ix2 n l := ⟨_, _, eq_ix2 (n0 := 6) (n1 := 1024) y⟩
  refine (stored8 m c t l n).trans ?_
  blk_ext [idx t]

end Cert.KernelIdeal.Sinkhorn

end
-- ==== Proof.Run.lean ====
/- The kernel's run: what its two results hold when it ends. -/
module

public import proofs.«01_k».proof.Proof.Arrays

@[expose] public section

set_option maxRecDepth 16384

noncomputable section

namespace Cert.KernelIdeal.Sinkhorn

open Idealize.ShloMosaic Idealize.ShloMosaic.TcCoe Idealize.SL.Sem
open Cert.KernelIdeal Cert.KernelIdeal.Gen
open Cert.Balance (softmax)

variable (m : (ℓ : Loc nD τ sig) → Buf (Elt Ideal) ℓ) (ρ : Dev nD → PrngReg) (c : Dev nD)

/-- The first result: the first array's rows, sample after sample, each cut into six rows of eight. -/
abbrev result7 : FVec Ideal S655360x6x8 .f32 := shapeCast S655360x6x8 (first m c) shapeCasts_S5x131072x48_S655360x6x8

/-- The second result: the second array on its side. -/
abbrev result8 : FVec Ideal S131072x6 .f32 := transpose S131072x6 [1, 0] (second m c) transposes_S6x131072_S131072x6_1_0

theorem tail7 : Pipeline.afterTail₀ cfgs (dats m) 0 (V0 m) [hostOps1] c main_v7 = result7 m c := by
  unfold Pipeline.afterTail₀
  simp only [List.flatten_cons, List.flatten_nil, List.append_nil]
  after_results
  refine congrArg (fun x : FVec Ideal S5x131072x48 .f32 => shapeCast S655360x6x8 x shapeCasts_S5x131072x48_S655360x6x8) ?_
  exact (Pipeline.withArrays_arr spec0 launch0.win.arr_inj c (V0 m c) _ 7).trans (final7 m c)

theorem tail8 : Pipeline.afterTail₀ cfgs (dats m) 0 (V0 m) [hostOps1] c main_v8 = result8 m c := by
  unfold Pipeline.afterTail₀
  simp only [List.flatten_cons, List.flatten_nil, List.append_nil]
  after_results
  refine congrArg (fun x : FVec Ideal S6x131072 .f32 => transpose S131072x6 [1, 0] x transposes_S6x131072_S131072x6_1_0) ?_
  exact (Pipeline.withArrays_arr spec0 launch0.win.arr_inj c (V0 m c) _ 8).trans (final8 m c)

theorem results : θ_run defs (onTc (τ := τ) main) ⟨m, fun _ => 0, ρ⟩ (fun r => ∀ c : Dev nD,
    r.2.mem ((c : Thread nD τ).loc main_v7) = result7 m c ∧ r.2.mem ((c : Thread nD τ).loc main_v8) = result8 m c) :=
  (θ_run defs _ _).mono (fun _ h c =>
    ⟨((h c).2 main_v7 (Pipeline.mem_restRefs_of main_v7 (by decide) (by decide))).trans (tail7 m c),
      ((h c).2 main_v8 (Pipeline.mem_restRefs_of main_v8 (by decide) (by decide))).trans (tail8 m c)⟩) (run_main m ρ)

/-- Entry by entry. -/
theorem result7_at (n : Fin 655360) (i : Fin 6) (d : Fin 8) : result7 m c (ix3 n i d)
    = ordered (m ((c : Thread nD τ).loc main_arg0)) (m ((c : Thread nD τ).loc main_arg1)) (m ((c : Thread nD τ).loc main_arg2))
        (m ((c : Thread nD τ).loc main_arg3)) (m ((c : Thread nD τ).loc main_arg4)) ⟨n.val / 131072, by omega⟩ ⟨n.val % 131072, by omega⟩ i d := by
  rw [← first_at]
  pointwise
  exact congrArg (fun e => first m c (ix3 _ _ e)) (Fin.ext (by show i.val * 8 + d.val = 8 * i.val + d.val; omega))

theorem result8_at (n : Fin 131072) (k : Fin 6) : result8 m c (ix2 n k)
    = softmax (logits (m ((c : Thread nD τ).loc main_arg0)) (m ((c : Thread nD τ).loc main_arg5)) (m ((c : Thread nD τ).loc main_arg6)) n) k := by
  change _ = second m c (ix2 k n)
  pointwise

end Cert.KernelIdeal.Sinkhorn

end
-- ==== Proof.RefSteps.lean ====
/- The reference read at an index: one half of an iteration on every one of the 655360 matrices. -/
module

public import proofs.«01_k».proof.Proof.Gen.ReferenceIdeal.Run
public import proofs.«01_k».proof.Proof.Balance

@[expose] public section

set_option maxRecDepth 16384

noncomputable section

namespace Cert.ReferenceIdeal.Sinkhorn

open Idealize.ShloMosaic Idealize.SL.Sem Idealize.ShloMosaic.StableHlo
open Cert.ReferenceIdeal Cert.ReferenceIdeal.Gen Cert.ReferenceIdeal.Value
open Cert.Balance (Mat rowSub colSub shift lse absf_eq top_word bot_word)

section Steps

variable {F : FTy → Type} [FloatOps F]

/-- The maximum of every row. -/
def rowMax (x : FVec F S655360x6x6 .f32) : FVec F S655360x6x1 .f32 :=
  broadcastInDim S655360x6x1 ![0, 1] bcast_S655360x6_S655360x6x1_0_1
    (Host.reduce FloatOps.maximumf x (constant S_ .f32 0xFF800000#32) reducesTo_S655360x6x6_S655360x6_d2 h_S_)

/-- What a row's log-sum-exp is shifted by. -/
def rowShift (x : FVec F S655360x6x6 .f32) : FVec F S655360x6x1 .f32 :=
  select (cmpf .olt (Host.absf (rowMax x)) (broadcastInDim S655360x6x1 ![] bcast_S_S655360x6x1 (constant S_ .f32 0x7F800000#32)))
    (rowMax x) (broadcastInDim S655360x6x1 ![] bcast_S_S655360x6x1 (constant S_ .f32 0x00000000#32))

/-- The sum of every row's shifted exponentials. -/
def rowSum (x : FVec F S655360x6x6 .f32) : FVec F S655360x6x1 .f32 :=
  broadcastInDim S655360x6x1 ![0, 1] bcast_S655360x6_S655360x6x1_0_1
    (Host.reduceAdd (Host.exp (subf x (broadcastInDim S655360x6x6 ![0, 1, 2] bcast_S655360x6x1_S655360x6x6_0_1_2 (rowShift x))))
      (constant S_ .f32 0x00000000#32) reducesTo_S655360x6x6_S655360x6_d2 h_S_)

/-- Every row less its log-sum-exp. -/
def rowStep (x : FVec F S655360x6x6 .f32) : FVec F S655360x6x6 .f32 :=
  subf x (broadcastInDim S655360x6x6 ![0, 1, 2] bcast_S655360x6x1_S655360x6x6_0_1_2 (addf (Host.log (rowSum x)) (rowShift x)))

/-- The maximum of every column. -/
def colMax (x : FVec F S655360x6x6 .f32) : FVec F S655360x1x6 .f32 :=
  broadcastInDim S655360x1x6 ![0, 2] bcast_S655360x6_S655360x1x6_0_2
    (Host.reduce FloatOps.maximumf x (constant S_ .f32 0xFF800000#32) reducesTo_S655360x6x6_S655360x6_d1 h_S_)

/-- What a column's log-sum-exp is shifted by. -/
def colShift (x : FVec F S655360x6x6 .f32) : FVec F S655360x1x6 .f32 :=
  select (cmpf .olt (Host.absf (colMax x)) (broadcastInDim S655360x1x6 ![] bcast_S_S655360x1x6 (constant S_ .f32 0x7F800000#32)))
    (colMax x) (broadcastInDim S655360x1x6 ![] bcast_S_S655360x1x6 (constant S_ .f32 0x00000000#32))

/-- The sum of every column's shifted exponentials. -/
def colSum (x : FVec F S655360x6x6 .f32) : FVec F S655360x1x6 .f32 :=
  broadcastInDim S655360x1x6 ![0, 2] bcast_S655360x6_S655360x1x6_0_2
    (Host.reduceAdd (Host.exp (subf x (broadcastInDim S655360x6x6 ![0, 1, 2] bcast_S655360x1x6_S655360x6x6_0_1_2 (colShift x))))
      (constant S_ .f32 0x00000000#32) reducesTo_S655360x6x6_S655360x6_d1 h_S_)

/-- Every column less its log-sum-exp. -/
def colStep (x : FVec F S655360x6x6 .f32) : FVec F S655360x6x6 .f32 :=
  subf x (broadcastInDim S655360x6x6 ![0, 1, 2] bcast_S655360x1x6_S655360x6x6_0_1_2 (addf (Host.log (colSum x)) (colShift x)))

/-- The four and a half iterations that the program names. -/
theorem v154_eq (V0 : Valuation τ sig (Elt F)) :
    res_main_v154 V0 = rowStep ((fun x => colStep (rowStep x))^[4] (res_main_v19 V0)) := rfl

theorem v160_eq (V0 : Valuation τ sig (Elt F)) : res_main_v160 V0 = colShift (res_main_v154 V0) := rfl

end Steps

/-- Matrix `n`. -/
def slab (x : FVec Ideal S655360x6x6 .f32) (n : Fin 655360) : Mat := fun r i => x (ix3 n r i)

variable (x : FVec Ideal S655360x6x6 .f32) (n : Fin 655360)

section Rows

variable (y z : FVec Ideal S655360x6x1 .f32) (r i : Fin 6)

theorem rowMax_at : rowMax x (ix3 n r 0) = Finset.univ.fold max (Ideal.ofBits .f32 0xFF800000#32) (fun k => x (ix3 n r k)) := by
  pointwise [rowMax]

theorem rowGuard_at :
    select (cmpf .olt (Host.absf y) (broadcastInDim S655360x6x1 ![] bcast_S_S655360x6x1 (constant S_ .f32 0x7F800000#32)))
      y (broadcastInDim S655360x6x1 ![] bcast_S_S655360x6x1 (constant S_ .f32 0x00000000#32)) (ix3 n r 0)
      = if FloatOps.absf (y (ix3 n r 0)) < Ideal.ofBits .f32 0x7F800000#32 then y (ix3 n r 0) else (0 : EReal) := by
  pointwise

theorem rowSum_of :
    broadcastInDim S655360x6x1 ![0, 1] bcast_S655360x6_S655360x6x1_0_1
      (Host.reduceAdd (Host.exp (subf x (broadcastInDim S655360x6x6 ![0, 1, 2] bcast_S655360x6x1_S655360x6x6_0_1_2 y)))
        (constant S_ .f32 0x00000000#32) reducesTo_S655360x6x6_S655360x6_d2 h_S_) (ix3 n r 0)
      = ∑ k : Fin 6, Ideal.exp (x (ix3 n r k) - y (ix3 n r 0)) := by
  pointwise

theorem rowStep_of :
    subf x (broadcastInDim S655360x6x6 ![0, 1, 2] bcast_S655360x6x1_S655360x6x6_0_1_2 (addf (Host.log z) y)) (ix3 n r i)
      = x (ix3 n r i) - (Ideal.log (z (ix3 n r 0)) + y (ix3 n r 0)) := by
  pointwise

theorem rowShift_at : rowShift x (ix3 n r 0) = shift fun k => x (ix3 n r k) := by
  refine (rowGuard_at n (rowMax x) r).trans ?_
  rw [absf_eq, rowMax_at, top_word, bot_word, shift]

theorem rowStep_at : slab (rowStep x) n = rowSub (slab x n) := by
  funext r i
  refine (rowStep_of x n (rowShift x) (rowSum x) r i).trans ?_
  rw [show rowSum x (ix3 n r 0) = _ from rowSum_of x n (rowShift x) r, rowShift_at]
  rfl

end Rows

section Columns

variable (y z : FVec Ideal S655360x1x6 .f32) (r i : Fin 6)

theorem colMax_at : colMax x (ix3 n 0 i) = Finset.univ.fold max (Ideal.ofBits .f32 0xFF800000#32) (fun k => x (ix3 n k i)) := by
  pointwise [colMax]

theorem colGuard_at :
    select (cmpf .olt (Host.absf y) (broadcastInDim S655360x1x6 ![] bcast_S_S655360x1x6 (constant S_ .f32 0x7F800000#32)))
      y (broadcastInDim S655360x1x6 ![] bcast_S_S655360x1x6 (constant S_ .f32 0x00000000#32)) (ix3 n 0 i)
      = if FloatOps.absf (y (ix3 n 0 i)) < Ideal.ofBits .f32 0x7F800000#32 then y (ix3 n 0 i) else (0 : EReal) := by
  pointwise

theorem colSum_of :
    broadcastInDim S655360x1x6 ![0, 2] bcast_S655360x6_S655360x1x6_0_2
      (Host.reduceAdd (Host.exp (subf x (broadcastInDim S655360x6x6 ![0, 1, 2] bcast_S655360x1x6_S655360x6x6_0_1_2 y)))
        (constant S_ .f32 0x00000000#32) reducesTo_S655360x6x6_S655360x6_d1 h_S_) (ix3 n 0 i)
      = ∑ k : Fin 6, Ideal.exp (x (ix3 n k i) - y (ix3 n 0 i)) := by
  pointwise

theorem colStep_of :
    subf x (broadcastInDim S655360x6x6 ![0, 1, 2] bcast_S655360x1x6_S655360x6x6_0_1_2 (addf (Host.log z) y)) (ix3 n r i)
      = x (ix3 n r i) - (Ideal.log (z (ix3 n 0 i)) + y (ix3 n 0 i)) := by
  pointwise

theorem colShift_at : colShift x (ix3 n 0 i) = shift fun k => x (ix3 n k i) := by
  refine (colGuard_at n (colMax x) i).trans ?_
  rw [absf_eq, colMax_at, top_word, bot_word, shift]

theorem colStep_at : slab (colStep x) n = colSub (slab x n) := by
  funext r i
  refine (colStep_of x n (colShift x) (colSum x) r i).trans ?_
  rw [show colSum x (ix3 n 0 i) = _ from colSum_of x n (colShift x) i, colShift_at]
  rfl

end Columns

end Cert.ReferenceIdeal.Sinkhorn

end
-- ==== Proof.RefValue.lean ====
/- The reference's two results read at an index. -/
module

public import proofs.«01_k».proof.Proof.RefSteps

@[expose] public section

set_option maxRecDepth 16384

noncomputable section

namespace Cert.ReferenceIdeal.Sinkhorn

open Idealize.ShloMosaic Idealize.SL.Sem Idealize.ShloMosaic.StableHlo
open Cert.ReferenceIdeal Cert.ReferenceIdeal.Gen Cert.ReferenceIdeal.Value
open Cert.Balance (Mat rowSub colSub sums subtracted softmax bot_word)

/-! ## The first result -/

section Ordered

variable (x : FVec Ideal S131072x16 .f32) (q : FVec Ideal S131072x6x8 .f32) (u : FVec Ideal S655360x6x6 .f32)
  (w : FVec Ideal S16x36 .f32) (b : FVec Ideal S36 .f32) (y : FVec Ideal S131072x36 .f32) (z : FVec Ideal S655360x6x6 .f32)
  (t : FVec Ideal S655360x6x8 .f32) (n : Fin 655360) (r i : Fin 6) (d : Fin 8)

/-- The batch row that matrix `n` belongs to. -/
abbrev batch : Fin 131072 := ⟨n.val % 131072, by omega⟩

theorem tile_at :
    (shapeCast _ (broadcastInDim S5x131072x1x6x1x6 ![0, 1, 2, 3, 4, 5] bcast_S1x131072x1x6x1x6_S5x131072x1x6x1x6_0_1_2_3_4_5
      (shapeCast _ (shapeCast _ y shapeCasts_S131072x36_S131072x6x6) shapeCasts_S131072x6x6_S1x131072x1x6x1x6))
      shapeCasts_S5x131072x1x6x1x6_S655360x6x6 : FVec Ideal S655360x6x6 .f32) (ix3 n r i)
      = y (ix2 (batch n) ⟨6 * r.val + i.val, by omega⟩) := by
  pointwise
  exact congrArg y (congrArg (ix2 (batch n)) (Fin.ext (show r.val * 6 + i.val = 6 * r.val + i.val by omega)))

theorem tileSeq_at :
    (shapeCast _ (broadcastInDim S5x131072x1x6x1x8 ![0, 1, 2, 3, 4, 5] bcast_S1x131072x1x6x1x8_S5x131072x1x6x1x8_0_1_2_3_4_5
      (shapeCast _ q shapeCasts_S131072x6x8_S1x131072x1x6x1x8)) shapeCasts_S5x131072x1x6x1x8_S655360x6x8 : FVec Ideal S655360x6x8 .f32)
      (ix3 n r d) = q (ix3 (batch n) r d) := by
  pointwise

theorem score_at (n : Fin 131072) (k : Fin 36) :
    addf (Host.dotGeneral dot_S131072x16_S16x36_S131072x36_1_0_0_1_n_n none x w)
      (broadcastInDim S131072x36 ![0, 1] bcast_S1x36_S131072x36_0_1 (broadcastInDim S1x36 ![1] bcast_S36_S1x36_1 b)) (ix2 n k)
      = (∑ j : Fin 16, x (ix2 n j) * w (ix2 j k)) + b (ix1 k) := by
  pointwise

theorem noise_at :
    Host.divf (addf z (mulf (Host.negf (Host.log (subf (broadcastInDim S655360x6x6 ![] bcast_S_S655360x6x6 (constant S_ .f32 0x1E3CE508#32))
      (Host.log (addf u (broadcastInDim S655360x6x6 ![] bcast_S_S655360x6x6 (constant S_ .f32 0x1E3CE508#32)))))))
      (broadcastInDim S655360x6x6 ![] bcast_S_S655360x6x6 (constant S_ .f32 0x3F800000#32))))
      (broadcastInDim S655360x6x6 ![] bcast_S_S655360x6x6 (constant S_ .f32 0x3F800000#32)) (ix3 n r i)
      = Ideal.div (z (ix3 n r i) + -(Ideal.log (Balance.eps - Ideal.log (u (ix3 n r i) + Balance.eps))) * 1) 1 := by
  pointwise

theorem weigh_at :
    Host.dotGeneral dot_S655360x6x6_S655360x6x8_S655360x6x8_2_1_1_2_0_0 none
      (transpose S655360x6x6 [0, 2, 1] (Host.exp z) transposes_S655360x6x6_S655360x6x6_0_2_1) t (ix3 n i d)
      = ∑ j : Fin 6, Ideal.exp (z (ix3 n j i)) * t (ix3 n j d) := by
  pointwise

/-- The scores of the matrix of batch row `n`. -/
def scores (x : FVec Ideal S131072x16 .f32) (w : FVec Ideal S16x36 .f32) (b : FVec Ideal S36 .f32) (n : Fin 131072) : Mat := fun r i =>
  (∑ j : Fin 16, x (ix2 n j) * w (ix2 j ⟨6 * r.val + i.val, by omega⟩)) + b (ix1 ⟨6 * r.val + i.val, by omega⟩)

end Ordered

section Results

variable (V0 : Valuation τ sig (Elt Ideal))

theorem start_at (n : Fin 655360) : slab (res_main_v19 V0) n
    = sums (scores (V0 (Proc.devRef .tc main_arg0)) (V0 (Proc.devRef .tc main_arg3)) (V0 (Proc.devRef .tc main_arg4)) (batch n))
        (slab (V0 (Proc.devRef .tc main_arg2)) n) := by
  funext r i
  refine (noise_at _ _ n r i).trans ?_
  exact congrArg (fun a => Ideal.div (a + _) 1) ((tile_at _ n r i).trans (score_at _ _ _ _ _))

/-- Repeated steps act on every matrix apart. -/
theorem iterate_at (y : FVec Ideal S655360x6x6 .f32) (k : ℕ) (n : Fin 655360) :
    slab ((fun x => colStep (rowStep x))^[k] y) n = (fun A => colSub (rowSub A))^[k] (slab y n) := by
  induction k generalizing y with
  | zero => rfl
  | succ k ih => rw [Function.iterate_succ_apply, Function.iterate_succ_apply, ih, colStep_at, rowStep_at]

theorem five_at (y : FVec Ideal S655360x6x6 .f32) (n : Fin 655360) :
    slab (colStep (rowStep ((fun x => colStep (rowStep x))^[4] y))) n = subtracted (slab y n) := by
  rw [colStep_at, rowStep_at, iterate_at, subtracted, Function.iterate_succ_apply' _ 4]

theorem ordered_at (n : Fin 655360) (i : Fin 6) (d : Fin 8) :
    (Host.dotGeneral dot_S655360x6x6_S655360x6x8_S655360x6x8_2_1_1_2_0_0 none
      (transpose S655360x6x6 [0, 2, 1] (Host.exp (colStep (res_main_v154 V0))) transposes_S655360x6x6_S655360x6x6_0_2_1)
      (shapeCast _ (broadcastInDim S5x131072x1x6x1x8 ![0, 1, 2, 3, 4, 5] bcast_S1x131072x1x6x1x8_S5x131072x1x6x1x8_0_1_2_3_4_5
        (shapeCast _ (V0 (Proc.devRef .tc main_arg1)) shapeCasts_S131072x6x8_S1x131072x1x6x1x8))
        shapeCasts_S5x131072x1x6x1x8_S655360x6x8 : FVec Ideal S655360x6x8 .f32) : FVec Ideal S655360x6x8 .f32) (ix3 n i d)
      = ∑ j : Fin 6, Ideal.exp (subtracted (sums (scores (V0 (Proc.devRef .tc main_arg0)) (V0 (Proc.devRef .tc main_arg3))
          (V0 (Proc.devRef .tc main_arg4)) (batch n)) (slab (V0 (Proc.devRef .tc main_arg2)) n)) j i)
        * (V0 (Proc.devRef .tc main_arg1) : FVec Ideal S131072x6x8 .f32) (ix3 (batch n) j d) := by
  refine (weigh_at _ _ n i d).trans ?_
  have h : slab (colStep (res_main_v154 V0)) n = subtracted (slab (res_main_v19 V0) n) := by
    rw [v154_eq]
    exact five_at _ n
  rw [start_at] at h
  exact Finset.sum_congr rfl fun j _ =>
    congrArg₂ (fun a b : EReal => a * b) (congrArg Ideal.exp (congrFun (congrFun h j) i)) (tileSeq_at (V0 (Proc.devRef .tc main_arg1)) n j d)

end Results

/-! ## The second result -/

section Stopping

variable (x : FVec Ideal S131072x16 .f32) (w : FVec Ideal S16x6 .f32) (b : FVec Ideal S6 .f32) (z : FVec Ideal S131072x6 .f32)
  (v : FVec Ideal S131072 .f32) (n : Fin 131072) (k : Fin 6)

theorem logit_at :
    addf (Host.dotGeneral dot_S131072x16_S16x6_S131072x6_1_0_0_1_n_n none x w)
      (broadcastInDim S131072x6 ![0, 1] bcast_S1x6_S131072x6_0_1 (broadcastInDim S1x6 ![1] bcast_S6_S1x6_1 b)) (ix2 n k)
      = (∑ j : Fin 16, x (ix2 n j) * w (ix2 j k)) + b (ix1 k) := by
  pointwise

theorem max_at : Host.reduce FloatOps.maximumf z (constant S_ .f32 0xFF800000#32) reducesTo_S131072x6_S131072_d1 h_S_ (ix1 n)
    = Finset.univ.fold max (Ideal.ofBits .f32 0xFF800000#32) fun j => z (ix2 n j) := by
  pointwise

theorem shifted_at :
    Host.exp (subf z (broadcastInDim S131072x6 ![0, 1] bcast_S131072x1_S131072x6_0_1 (broadcastInDim S131072x1 ![0] bcast_S131072_S131072x1_0
      (maximumf (broadcastInDim S131072 ![] bcast_S_S131072 (constant S_ .f32 0xFF800000#32)) v)))) (ix2 n k)
      = Ideal.exp (z (ix2 n k) - max (Ideal.ofBits .f32 0xFF800000#32) (v (ix1 n))) := by
  pointwise

theorem quotient_at :
    Host.divf z (broadcastInDim S131072x6 ![0, 1] bcast_S131072x1_S131072x6_0_1 (broadcastInDim S131072x1 ![0] bcast_S131072_S131072x1_0
      (Host.reduceAdd z (constant S_ .f32 0x00000000#32) reducesTo_S131072x6_S131072_d1 h_S_))) (ix2 n k)
      = Ideal.div (z (ix2 n k)) (∑ j : Fin 6, z (ix2 n j)) := by
  pointwise

/-- The logits of batch row `n`. -/
def logits (x : FVec Ideal S131072x16 .f32) (w : FVec Ideal S16x6 .f32) (b : FVec Ideal S6 .f32) (n : Fin 131072) (k : Fin 6) : EReal :=
  (∑ j : Fin 16, x (ix2 n j) * w (ix2 j k)) + b (ix1 k)

theorem stopping_at (V0 : Valuation τ sig (Elt Ideal)) :
    (Host.divf (res_main_v186 V0) (broadcastInDim S131072x6 ![0, 1] bcast_S131072x1_S131072x6_0_1
      (broadcastInDim S131072x1 ![0] bcast_S131072_S131072x1_0 (Host.reduceAdd (res_main_v186 V0) (constant S_ .f32 0x00000000#32)
        reducesTo_S131072x6_S131072_d1 h_S_))) : FVec Ideal S131072x6 .f32) (ix2 n k)
      = softmax (logits (V0 (Proc.devRef .tc main_arg0)) (V0 (Proc.devRef .tc main_arg5)) (V0 (Proc.devRef .tc main_arg6)) n) k := by
  have hz : ∀ k : Fin 6, (res_main_v179 V0 : FVec Ideal S131072x6 .f32) (ix2 n k)
      = logits (V0 (Proc.devRef .tc main_arg0)) (V0 (Proc.devRef .tc main_arg5)) (V0 (Proc.devRef .tc main_arg6)) n k :=
    fun k => logit_at _ _ _ n k
  have he : ∀ k : Fin 6, (res_main_v186 V0 : FVec Ideal S131072x6 .f32) (ix2 n k)
      = Ideal.exp (logits (V0 (Proc.devRef .tc main_arg0)) (V0 (Proc.devRef .tc main_arg5)) (V0 (Proc.devRef .tc main_arg6)) n k
        - Finset.univ.fold max ⊥ (logits (V0 (Proc.devRef .tc main_arg0)) (V0 (Proc.devRef .tc main_arg5)) (V0 (Proc.devRef .tc main_arg6)) n)) := by
    intro k
    refine (shifted_at _ _ n k).trans ?_
    rw [max_at, bot_word, max_eq_right bot_le, hz]
    simp only [hz]
  rw [quotient_at]
  simp only [he]
  rfl

end Stopping

end Cert.ReferenceIdeal.Sinkhorn

end
-- ==== Proof.Join.lean ====
/- The kernel's results are the reference's wherever the precondition holds. -/
module

public import proofs.«01_k».proof.Defs
public import proofs.«01_k».proof.Proof.Run
public import proofs.«01_k».proof.Proof.RefValue
public import proofs.«01_k».proof.Proof.Gen.Pre_tame
public import Idealize.ShloMosaic.Lib.IdealHost

@[expose] public section

set_option maxRecDepth 16384

noncomputable section

namespace Cert.Join

open Idealize.ShloMosaic Idealize.SL.Sem
open Cert.Balance (coe_of_abs top_word balanced_eq score_coe)

/-! ## What the precondition says of an entry -/

/-- An entry whose absolute value compares below infinity is a real. -/
theorem real_of_bit {a : EReal} (h : FloatOps.cmpf (F := Ideal) (φ := .f32) .olt (FloatOps.absf (F := Ideal) (φ := .f32) a)
    (Ideal.ofBits .f32 0x7F800000#32) = 1#1) : ∃ x : ℝ, a = (x : EReal) := by
  refine coe_of_abs ?_
  rw [Ideal.cmpf_def, top_word] at h
  by_contra hn
  rw [show FloatOps.absf (F := Ideal) (φ := .f32) a = max a (-a) from rfl] at h
  rw [Ideal.cmp, decide_eq_false hn] at h
  exact absurd h (by decide)

/-- An entry that compares at least zero and at most one is between them. -/
theorem unit_of_bits {a : EReal} (h : FloatOps.cmpf (F := Ideal) (φ := .f32) .oge a (Ideal.ofBits .f32 0x00000000#32)
    &&& FloatOps.cmpf (F := Ideal) (φ := .f32) .ole a (Ideal.ofBits .f32 0x3F800000#32) = 1#1) : 0 ≤ a ∧ a ≤ 1 := by
  rw [Ideal.cmpf_def, Ideal.cmpf_def, Ideal.ofBits_zero_f32, Ideal.ofBits_one_f32] at h
  by_cases h0 : 0 ≤ a <;> by_cases h1 : a ≤ 1 <;> simp [Ideal.cmp, h0, h1] at h ⊢

/-! ## The arrays -/

section Arrays

variable {x0 : FVec Ideal Cert.Pre_tame.S131072x16 .f32} {x1 : FVec Ideal Cert.Pre_tame.S131072x6x8 .f32}
  {x2 : FVec Ideal Cert.Pre_tame.S655360x6x6 .f32} {x3 : FVec Ideal Cert.Pre_tame.S16x36 .f32} {x4 : FVec Ideal Cert.Pre_tame.S36 .f32}
  {x5 : FVec Ideal Cert.Pre_tame.S16x6 .f32} {x6 : FVec Ideal Cert.Pre_tame.S6 .f32}

theorem noise_unit (h : (Cert.Pre_tame.fn x0 x1 x2 x3 x4 x5 x6).1 = fun _ => 1#1) (j : Cert.Pre_tame.S655360x6x6.Idx) :
    0 ≤ x2 j ∧ x2 j ≤ 1 :=
  unit_of_bits (congrFun h j)

theorem latent_real (h : (Cert.Pre_tame.fn x0 x1 x2 x3 x4 x5 x6).2.1 = fun _ => 1#1) (j : Cert.Pre_tame.S131072x16.Idx) :
    ∃ x : ℝ, x0 j = (x : EReal) :=
  real_of_bit (congrFun h j)

theorem weight_real (h : (Cert.Pre_tame.fn x0 x1 x2 x3 x4 x5 x6).2.2.1 = fun _ => 1#1) (j : Cert.Pre_tame.S16x36.Idx) :
    ∃ x : ℝ, x3 j = (x : EReal) :=
  real_of_bit (congrFun h j)

theorem bias_real (h : (Cert.Pre_tame.fn x0 x1 x2 x3 x4 x5 x6).2.2.2 = fun _ => 1#1) (j : Cert.Pre_tame.S36.Idx) :
    ∃ x : ℝ, x4 j = (x : EReal) :=
  real_of_bit (congrFun h j)

end Arrays

/-! ## The two results -/

section Results

open Cert.Balance (Mat divided subtracted sums quotients)

variable {x : FVec Ideal Cert.KernelIdeal.S131072x16 .f32} {q : FVec Ideal Cert.KernelIdeal.S131072x6x8 .f32}
  {u : FVec Ideal Cert.KernelIdeal.S655360x6x6 .f32} {w : FVec Ideal Cert.KernelIdeal.S16x36 .f32} {b : FVec Ideal Cert.KernelIdeal.S36 .f32}

/-- Balancing by subtraction of logarithms and by division order the rows alike. -/
theorem ordered_eq (hx : ∀ j, ∃ r : ℝ, x j = (r : EReal)) (hw : ∀ j, ∃ r : ℝ, w j = (r : EReal)) (hb : ∀ j, ∃ r : ℝ, b j = (r : EReal))
    (hu : ∀ j, 0 ≤ u j ∧ u j ≤ 1) (n : Fin 655360) (i : Fin 6) (d : Fin 8) :
    (∑ j : Fin 6, Ideal.exp (subtracted (sums (Cert.ReferenceIdeal.Sinkhorn.scores x w b (Cert.ReferenceIdeal.Sinkhorn.batch n))
        (Cert.ReferenceIdeal.Sinkhorn.slab u n)) j i) * q (ix3 (Cert.ReferenceIdeal.Sinkhorn.batch n) j d))
      = Cert.KernelIdeal.Sinkhorn.ordered x q u w b ⟨n.val / 131072, by omega⟩ ⟨n.val % 131072, by omega⟩ i d := by
  refine Finset.sum_congr rfl fun j _ => congrArg (· * q (ix3 (Cert.ReferenceIdeal.Sinkhorn.batch n) j d)) ?_
  refine (balanced_eq (fun r i => score_coe (fun k => hx _) (fun k => hw _) (hb _)) (fun r i => (hu _).1) (fun r i => (hu _).2) j i).trans ?_
  have e : Cert.KernelIdeal.Sinkhorn.row ⟨n.val / 131072, by omega⟩ ⟨n.val % 131072, by omega⟩ = n :=
    Fin.ext (by show n.val / 131072 * 131072 + n.val % 131072 = n.val; omega)
  rw [e]
  rfl

end Results

/-! ## The claim -/

theorem algebraic : Cert.algebraic_KernelIdeal_ReferenceIdeal_pre_tame := by
  intro m g m' g' hp ha
  refine ⟨Cert.KernelIdeal.Sinkhorn.result7 m, Cert.KernelIdeal.Sinkhorn.result8 m, ?_, ?_⟩
  · exact (θ_run Cert.KernelIdeal.defs _ _).mono (fun _ h c => ⟨(h.1 c).1, (h.1 c).2, h.2 c⟩)
      (θ_run_and (Cert.KernelIdeal.Sinkhorn.results m g) (Cert.KernelIdeal.Gen.unchanged m g))
  · refine (θ_run Cert.ReferenceIdeal.defs _ _).mono (fun _ h c => ⟨(h c).1.trans ?_, (h c).2.1.trans ?_, (h c).2.2⟩)
      (Cert.ReferenceIdeal.Value.run (F := Ideal) m' g')
    · obtain ⟨e0, e1, e2, e3, e4, e5, e6⟩ := ha c
      obtain ⟨p2, p0, p3, p4⟩ := hp c
      refine funext fun j => ?_
      rw [eq_ix3 (n0 := 655360) (n1 := 6) (n2 := 8) j]
      refine (Cert.ReferenceIdeal.Sinkhorn.ordered_at (StableHlo.launchContents m' c) _ _ _).trans ?_
      refine Eq.trans ?_ (Cert.KernelIdeal.Sinkhorn.result7_at m c _ _ _).symm
      refine Eq.trans ?_ (ordered_eq (latent_real p0) (weight_real p3) (bias_real p4) (noise_unit p2) _ _ _)
      rw [← e0, ← e1, ← e2, ← e3, ← e4]
    · obtain ⟨e0, e1, e2, e3, e4, e5, e6⟩ := ha c
      refine funext fun j => ?_
      rw [eq_ix2 (n0 := 131072) (n1 := 6) j]
      refine (Cert.ReferenceIdeal.Sinkhorn.stopping_at _ _ (StableHlo.launchContents m' c)).trans ?_
      refine Eq.trans ?_ (Cert.KernelIdeal.Sinkhorn.result8_at m c _ _).symm
      rw [← e0, ← e5, ← e6]
      rfl

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.Pre_tame
public import Idealize.ShloMosaic.Lib.Quiescent
public import proofs.«01_k».proof.Proof.Join

@[expose] public section

noncomputable section

namespace Cert.Proof

open Idealize.ShloMosaic Idealize.SL.Sem Cert.Kernel

/-- The reference runs, leaves its arguments alone, and ends with every counter at zero. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    Cert.Join.algebraic⟩

end Cert.Proof

end
